-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000x64 : Shape := ⟨2, ![1000000, 64]⟩
abbrev S64x64 : Shape := ⟨2, ![64, 64]⟩
abbrev S64 : Shape := ⟨1, ![64]⟩
abbrev S_ : Shape := ⟨0, ![]⟩
abbrev S1 : Shape := ⟨1, ![1]⟩
abbrev S2 : Shape := ⟨1, ![2]⟩
abbrev S1000000 : Shape := ⟨1, ![1000000]⟩
abbrev S2x1 : Shape := ⟨2, ![2, 1]⟩
abbrev S2x2 : Shape := ⟨2, ![2, 2]⟩
abbrev S1x2 : Shape := ⟨2, ![1, 2]⟩
abbrev S100000 : Shape := ⟨1, ![100000]⟩
abbrev S100000x1 : Shape := ⟨2, ![100000, 1]⟩
abbrev S1x64 : Shape := ⟨2, ![1, 64]⟩
abbrev S125x1x8000 : Shape := ⟨3, ![125, 1, 8000]⟩
abbrev S8000x64 : Shape := ⟨2, ![8000, 64]⟩
abbrev S1x1x8000 : Shape := ⟨3, ![1, 1, 8000]⟩
abbrev S1x8000 : Shape := ⟨2, ![1, 8000]⟩
abbrev S8000x1 : Shape := ⟨2, ![8000, 1]⟩

abbrev nBuf : Space → Nat
  | .hbm => 993
  | .vmem => 8
  | .smem => 0
  | _ => 0

abbrev hbmTy0_0 (i : Nat) : BufTy := match i % 128 with
  | 0 => ⟨S1000000x64, .f32⟩
  | 1 => ⟨S64x64, .f32⟩
  | 2 => ⟨S64, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S1000000, .i32⟩
  | 14 => ⟨S1, .i32⟩
  | 15 => ⟨S_, .i32⟩
  | 16 => ⟨S1, .i32⟩
  | 17 => ⟨S_, .i32⟩
  | 18 => ⟨S2, .i64⟩
  | 19 => ⟨S_, .i64⟩
  | 20 => ⟨S2, .i64⟩
  | 21 => ⟨S2, .i64⟩
  | 22 => ⟨S_, .i64⟩
  | 23 => ⟨S2, .i64⟩
  | 24 => ⟨S2, .i64⟩
  | 25 => ⟨S2, .i32⟩
  | 26 => ⟨S2, .i32⟩
  | 27 => ⟨S_, .i32⟩
  | 28 => ⟨S_, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S1000000x64, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S2x1, .i32⟩
  | 122 => ⟨S2x1, .i32⟩
  | 123 => ⟨S2x2, .i32⟩
  | 124 => ⟨S1x2, .i32⟩
  | 125 => ⟨S2, .i32⟩
  | 126 => ⟨S1x2, .i32⟩
  | 127 => ⟨S2, .i32⟩
  | _ => ⟨S1000000x64, .f32⟩

abbrev hbmTy0_2 (i : Nat) : BufTy := match i % 128 with
  | 0 => ⟨S1, .i32⟩
  | 1 => ⟨S_, .i32⟩
  | 2 => ⟨S1, .i32⟩
  | 3 => ⟨S_, .i32⟩
  | 4 => ⟨S1000000, .i64⟩
  | 5 => ⟨S_, .i64⟩
  | 6 => ⟨S1000000, .i64⟩
  | 7 => ⟨S1000000, .i64⟩
  | 8 => ⟨S_, .i64⟩
  | 9 => ⟨S1000000, .i64⟩
  | 10 => ⟨S1000000, .i64⟩
  | 11 => ⟨S1000000, .i32⟩
  | 12 => ⟨S1000000, .i32⟩
  | 13 => ⟨S_, .i32⟩
  | 14 => ⟨S_, .i32⟩
  | 15 => ⟨S_, .i32⟩
  | 16 => ⟨S1000000, .i32⟩
  | 17 => ⟨S1000000, .i32⟩
  | 18 => ⟨S1000000, .i32⟩
  | 19 => ⟨S1000000, .i32⟩
  | 20 => ⟨S1000000, .i32⟩
  | 21 => ⟨S_, .i32⟩
  | 22 => ⟨S1000000, .i32⟩
  | 23 => ⟨S1000000, .i32⟩
  | 24 => ⟨S_, .i32⟩
  | 25 => ⟨S1000000, .i32⟩
  | 26 => ⟨S1000000, .i32⟩
  | 27 => ⟨S1000000, .i32⟩
  | 28 => ⟨S1000000, .i32⟩
  | 29 => ⟨S1000000, .i32⟩
  | 30 => ⟨S_, .i32⟩
  | 31 => ⟨S1000000, .i32⟩
  | 32 => ⟨S1000000, .i32⟩
  | 33 => ⟨S_, .i32⟩
  | 34 => ⟨S1000000, .i32⟩
  | 35 => ⟨S1000000, .i32⟩
  | 36 => ⟨S1000000, .i32⟩
  | 37 => ⟨S1000000, .i32⟩
  | 38 => ⟨S1000000, .i32⟩
  | 39 => ⟨S_, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S1000000, .i32⟩
  | 46 => ⟨S1000000, .i32⟩
  | 47 => ⟨S1000000, .i32⟩
  | 48 => ⟨S_, .i32⟩
  | 49 => ⟨S1000000, .i32⟩
  | 50 => ⟨S1000000, .i32⟩
  | 51 => ⟨S_, .i32⟩
  | 52 => ⟨S1000000, .i32⟩
  | 53 => ⟨S1000000, .i32⟩
  | 54 => ⟨S1000000, .i32⟩
  | 55 => ⟨S1000000, .i32⟩
  | 56 => ⟨S1000000, .i32⟩
  | 57 => ⟨S1000000, .i32⟩
  | 58 => ⟨S1000000, .i32⟩
  | 59 => ⟨S1000000, .i32⟩
  | 60 => ⟨S_, .i32⟩
  | 61 => ⟨S1000000, .i32⟩
  | 62 => ⟨S1000000, .i32⟩
  | 63 => ⟨S1000000, .i32⟩
  | 64 => ⟨S_, .i32⟩
  | 65 => ⟨S1000000, .i32⟩
  | 66 => ⟨S1000000, .i32⟩
  | 67 => ⟨S_, .i32⟩
  | 68 => ⟨S1000000, .i32⟩
  | 69 => ⟨S1000000, .i32⟩
  | 70 => ⟨S1000000, .i32⟩
  | 71 => ⟨S1000000, .i32⟩
  | 72 => ⟨S1000000, .i32⟩
  | 73 => ⟨S_, .i32⟩
  | 74 => ⟨S1000000, .i32⟩
  | 75 => ⟨S1000000, .i32⟩
  | 76 => ⟨S_, .i32⟩
  | 77 => ⟨S1000000, .i32⟩
  | 78 => ⟨S1000000, .i32⟩
  | 79 => ⟨S1000000, .i32⟩
  | 80 => ⟨S1000000, .i32⟩
  | 81 => ⟨S1000000, .i32⟩
  | 82 => ⟨S_, .i32⟩
  | 83 => ⟨S1000000, .i32⟩
  | 84 => ⟨S1000000, .i32⟩
  | 85 => ⟨S_, .i32⟩
  | 86 => ⟨S1000000, .i32⟩
  | 87 => ⟨S1000000, .i32⟩
  | 88 => ⟨S1000000, .i32⟩
  | 89 => ⟨S1000000, .i32⟩
  | 90 => ⟨S1000000, .i32⟩
  | 91 => ⟨S_, .i32⟩
  | 92 => ⟨S1000000, .i32⟩
  | 93 => ⟨S1000000, .i32⟩
  | 94 => ⟨S_, .i32⟩
  | 95 => ⟨S1000000, .i32⟩
  | 96 => ⟨S1000000, .i32⟩
  | 97 => ⟨S1000000, .i32⟩
  | 98 => ⟨S1000000, .i32⟩
  | 99 => ⟨S1000000, .i32⟩
  | 100 => ⟨S1000000, .i32⟩
  | 101 => ⟨S1000000, .i32⟩
  | 102 => ⟨S1000000, .i32⟩
  | 103 => ⟨S_, .i32⟩
  | 104 => ⟨S1000000, .i32⟩
  | 105 => ⟨S1000000, .i32⟩
  | 106 => ⟨S1000000, .i32⟩
  | 107 => ⟨S_, .i32⟩
  | 108 => ⟨S1000000, .i32⟩
  | 109 => ⟨S1000000, .i32⟩
  | 110 => ⟨S_, .i32⟩
  | 111 => ⟨S1000000, .i32⟩
  | 112 => ⟨S1000000, .i32⟩
  | 113 => ⟨S1000000, .i32⟩
  | 114 => ⟨S1000000, .i32⟩
  | 115 => ⟨S1000000, .i32⟩
  | 116 => ⟨S_, .i32⟩
  | 117 => ⟨S1000000, .i32⟩
  | 118 => ⟨S1000000, .i32⟩
  | 119 => ⟨S_, .i32⟩
  | 120 => ⟨S1000000, .i32⟩
  | 121 => ⟨S1000000, .i32⟩
  | 122 => ⟨S1000000, .i32⟩
  | 123 => ⟨S1000000, .i32⟩
  | 124 => ⟨S1000000, .i32⟩
  | 125 => ⟨S_, .i32⟩
  | 126 => ⟨S1000000, .i32⟩
  | 127 => ⟨S1000000, .i32⟩
  | _ => ⟨S1000000x64, .f32⟩

abbrev hbmTy0_3 (i : Nat) : BufTy := match i % 128 with
  | 0 => ⟨S_, .i32⟩
  | 1 => ⟨S1000000, .i32⟩
  | 2 => ⟨S1000000, .i32⟩
  | 3 => ⟨S1000000, .i32⟩
  | 4 => ⟨S1000000, .i32⟩
  | 5 => ⟨S1000000, .i32⟩
  | 6 => ⟨S_, .i32⟩
  | 7 => ⟨S1000000, .i32⟩
  | 8 => ⟨S1000000, .i32⟩
  | 9 => ⟨S_, .i32⟩
  | 10 => ⟨S1000000, .i32⟩
  | 11 => ⟨S1000000, .i32⟩
  | 12 => ⟨S1000000, .i32⟩
  | 13 => ⟨S1000000, .i32⟩
  | 14 => ⟨S1000000, .i32⟩
  | 15 => ⟨S1000000, .i32⟩
  | 16 => ⟨S1000000, .i32⟩
  | 17 => ⟨S1000000, .i32⟩
  | 18 => ⟨S_, .i32⟩
  | 19 => ⟨S1000000, .i32⟩
  | 20 => ⟨S1000000, .i32⟩
  | 21 => ⟨S1000000, .i32⟩
  | 22 => ⟨S_, .i32⟩
  | 23 => ⟨S1000000, .i32⟩
  | 24 => ⟨S1000000, .i32⟩
  | 25 => ⟨S_, .i32⟩
  | 26 => ⟨S1000000, .i32⟩
  | 27 => ⟨S1000000, .i32⟩
  | 28 => ⟨S1000000, .i32⟩
  | 29 => ⟨S1000000, .i32⟩
  | 30 => ⟨S1000000, .i32⟩
  | 31 => ⟨S_, .i32⟩
  | 32 => ⟨S1000000, .i32⟩
  | 33 => ⟨S1000000, .i32⟩
  | 34 => ⟨S_, .i32⟩
  | 35 => ⟨S1000000, .i32⟩
  | 36 => ⟨S1000000, .i32⟩
  | 37 => ⟨S1000000, .i32⟩
  | 38 => ⟨S1000000, .i32⟩
  | 39 => ⟨S1000000, .i32⟩
  | 40 => ⟨S_, .i32⟩
  | 41 => ⟨S1000000, .i32⟩
  | 42 => ⟨S1000000, .i32⟩
  | 43 => ⟨S_, .i32⟩
  | 44 => ⟨S1000000, .i32⟩
  | 45 => ⟨S1000000, .i32⟩
  | 46 => ⟨S1000000, .i32⟩
  | 47 => ⟨S1000000, .i32⟩
  | 48 => ⟨S1000000, .i32⟩
  | 49 => ⟨S_, .i32⟩
  | 50 => ⟨S1000000, .i32⟩
  | 51 => ⟨S1000000, .i32⟩
  | 52 => ⟨S_, .i32⟩
  | 53 => ⟨S1000000, .i32⟩
  | 54 => ⟨S1000000, .i32⟩
  | 55 => ⟨S1000000, .i32⟩
  | 56 => ⟨S1000000, .i32⟩
  | 57 => ⟨S1000000, .i32⟩
  | 58 => ⟨S1000000, .i32⟩
  | 59 => ⟨S1000000, .i32⟩
  | 60 => ⟨S1000000, .i32⟩
  | 61 => ⟨S_, .i32⟩
  | 62 => ⟨S1000000, .i32⟩
  | 63 => ⟨S1000000, .i32⟩
  | 64 => ⟨S1000000, .i32⟩
  | 65 => ⟨S_, .i32⟩
  | 66 => ⟨S1000000, .i32⟩
  | 67 => ⟨S1000000, .i32⟩
  | 68 => ⟨S_, .i32⟩
  | 69 => ⟨S1000000, .i32⟩
  | 70 => ⟨S1000000, .i32⟩
  | 71 => ⟨S1000000, .i32⟩
  | 72 => ⟨S1000000, .i32⟩
  | 73 => ⟨S1000000, .i32⟩
  | 74 => ⟨S_, .i32⟩
  | 75 => ⟨S1000000, .i32⟩
  | 76 => ⟨S1000000, .i32⟩
  | 77 => ⟨S_, .i32⟩
  | 78 => ⟨S1000000, .i32⟩
  | 79 => ⟨S1000000, .i32⟩
  | 80 => ⟨S1000000, .i32⟩
  | 81 => ⟨S1000000, .i32⟩
  | 82 => ⟨S1000000, .i32⟩
  | 83 => ⟨S_, .i32⟩
  | 84 => ⟨S1000000, .i32⟩
  | 85 => ⟨S1000000, .i32⟩
  | 86 => ⟨S_, .i32⟩
  | 87 => ⟨S1000000, .i32⟩
  | 88 => ⟨S1000000, .i32⟩
  | 89 => ⟨S1000000, .i32⟩
  | 90 => ⟨S1000000, .i32⟩
  | 91 => ⟨S1000000, .i32⟩
  | 92 => ⟨S_, .i32⟩
  | 93 => ⟨S1000000, .i32⟩
  | 94 => ⟨S1000000, .i32⟩
  | 95 => ⟨S_, .i32⟩
  | 96 => ⟨S1000000, .i32⟩
  | 97 => ⟨S1000000, .i32⟩
  | 98 => ⟨S1000000, .i32⟩
  | 99 => ⟨S1000000, .i32⟩
  | 100 => ⟨S1000000, .i32⟩
  | 101 => ⟨S1000000, .i32⟩
  | 102 => ⟨S1000000, .i32⟩
  | 103 => ⟨S1000000, .i32⟩
  | 104 => ⟨S_, .i32⟩
  | 105 => ⟨S1000000, .i32⟩
  | 106 => ⟨S1000000, .i32⟩
  | 107 => ⟨S1000000, .i32⟩
  | 108 => ⟨S1000000, .i32⟩
  | 109 => ⟨S1000000, .i32⟩
  | 110 => ⟨S1, .i32⟩
  | 111 => ⟨S_, .i32⟩
  | 112 => ⟨S1, .i32⟩
  | 113 => ⟨S_, .i32⟩
  | 114 => ⟨S2, .i64⟩
  | 115 => ⟨S_, .i64⟩
  | 116 => ⟨S2, .i64⟩
  | 117 => ⟨S2, .i64⟩
  | 118 => ⟨S_, .i64⟩
  | 119 => ⟨S2, .i64⟩
  | 120 => ⟨S2, .i64⟩
  | 121 => ⟨S2, .i32⟩
  | 122 => ⟨S2, .i32⟩
  | 123 => ⟨S_, .i32⟩
  | 124 => ⟨S_, .i32⟩
  | 125 => ⟨S_, .i32⟩
  | 126 => ⟨S2, .i32⟩
  | 127 => ⟨S2, .i32⟩
  | _ => ⟨S1000000x64, .f32⟩

abbrev hbmTy0_4 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S1000000x64, .f32⟩

abbrev hbmTy0_5 (i : Nat) : BufTy := match i % 128 with
  | 0 => ⟨S_, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S2x1, .i32⟩
  | 90 => ⟨S2x1, .i32⟩
  | 91 => ⟨S2x2, .i32⟩
  | 92 => ⟨S1x2, .i32⟩
  | 93 => ⟨S2, .i32⟩
  | 94 => ⟨S1x2, .i32⟩
  | 95 => ⟨S2, .i32⟩
  | 96 => ⟨S1, .i32⟩
  | 97 => ⟨S_, .i32⟩
  | 98 => ⟨S1, .i32⟩
  | 99 => ⟨S_, .i32⟩
  | 100 => ⟨S1000000, .i64⟩
  | 101 => ⟨S_, .i64⟩
  | 102 => ⟨S1000000, .i64⟩
  | 103 => ⟨S1000000, .i64⟩
  | 104 => ⟨S_, .i64⟩
  | 105 => ⟨S1000000, .i64⟩
  | 106 => ⟨S1000000, .i64⟩
  | 107 => ⟨S1000000, .i32⟩
  | 108 => ⟨S1000000, .i32⟩
  | 109 => ⟨S_, .i32⟩
  | 110 => ⟨S_, .i32⟩
  | 111 => ⟨S_, .i32⟩
  | 112 => ⟨S1000000, .i32⟩
  | 113 => ⟨S1000000, .i32⟩
  | 114 => ⟨S1000000, .i32⟩
  | 115 => ⟨S1000000, .i32⟩
  | 116 => ⟨S1000000, .i32⟩
  | 117 => ⟨S_, .i32⟩
  | 118 => ⟨S1000000, .i32⟩
  | 119 => ⟨S1000000, .i32⟩
  | 120 => ⟨S_, .i32⟩
  | 121 => ⟨S1000000, .i32⟩
  | 122 => ⟨S1000000, .i32⟩
  | 123 => ⟨S1000000, .i32⟩
  | 124 => ⟨S1000000, .i32⟩
  | 125 => ⟨S1000000, .i32⟩
  | 126 => ⟨S_, .i32⟩
  | 127 => ⟨S1000000, .i32⟩
  | _ => ⟨S1000000x64, .f32⟩

abbrev hbmTy0_6 (i : Nat) : BufTy := match i % 128 with
  | 0 => ⟨S1000000, .i32⟩
  | 1 => ⟨S_, .i32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S_, .i32⟩
  | 8 => ⟨S1000000, .i32⟩
  | 9 => ⟨S1000000, .i32⟩
  | 10 => ⟨S_, .i32⟩
  | 11 => ⟨S1000000, .i32⟩
  | 12 => ⟨S1000000, .i32⟩
  | 13 => ⟨S1000000, .i32⟩
  | 14 => ⟨S1000000, .i32⟩
  | 15 => ⟨S1000000, .i32⟩
  | 16 => ⟨S_, .i32⟩
  | 17 => ⟨S1000000, .i32⟩
  | 18 => ⟨S1000000, .i32⟩
  | 19 => ⟨S_, .i32⟩
  | 20 => ⟨S1000000, .i32⟩
  | 21 => ⟨S1000000, .i32⟩
  | 22 => ⟨S1000000, .i32⟩
  | 23 => ⟨S1000000, .i32⟩
  | 24 => ⟨S1000000, .i32⟩
  | 25 => ⟨S1000000, .i32⟩
  | 26 => ⟨S1000000, .i32⟩
  | 27 => ⟨S1000000, .i32⟩
  | 28 => ⟨S_, .i32⟩
  | 29 => ⟨S1000000, .i32⟩
  | 30 => ⟨S1000000, .i32⟩
  | 31 => ⟨S1000000, .i32⟩
  | 32 => ⟨S_, .i32⟩
  | 33 => ⟨S1000000, .i32⟩
  | 34 => ⟨S1000000, .i32⟩
  | 35 => ⟨S_, .i32⟩
  | 36 => ⟨S1000000, .i32⟩
  | 37 => ⟨S1000000, .i32⟩
  | 38 => ⟨S1000000, .i32⟩
  | 39 => ⟨S1000000, .i32⟩
  | 40 => ⟨S1000000, .i32⟩
  | 41 => ⟨S_, .i32⟩
  | 42 => ⟨S1000000, .i32⟩
  | 43 => ⟨S1000000, .i32⟩
  | 44 => ⟨S_, .i32⟩
  | 45 => ⟨S1000000, .i32⟩
  | 46 => ⟨S1000000, .i32⟩
  | 47 => ⟨S1000000, .i32⟩
  | 48 => ⟨S1000000, .i32⟩
  | 49 => ⟨S1000000, .i32⟩
  | 50 => ⟨S_, .i32⟩
  | 51 => ⟨S1000000, .i32⟩
  | 52 => ⟨S1000000, .i32⟩
  | 53 => ⟨S_, .i32⟩
  | 54 => ⟨S1000000, .i32⟩
  | 55 => ⟨S1000000, .i32⟩
  | 56 => ⟨S1000000, .i32⟩
  | 57 => ⟨S1000000, .i32⟩
  | 58 => ⟨S1000000, .i32⟩
  | 59 => ⟨S_, .i32⟩
  | 60 => ⟨S1000000, .i32⟩
  | 61 => ⟨S1000000, .i32⟩
  | 62 => ⟨S_, .i32⟩
  | 63 => ⟨S1000000, .i32⟩
  | 64 => ⟨S1000000, .i32⟩
  | 65 => ⟨S1000000, .i32⟩
  | 66 => ⟨S1000000, .i32⟩
  | 67 => ⟨S1000000, .i32⟩
  | 68 => ⟨S1000000, .i32⟩
  | 69 => ⟨S1000000, .i32⟩
  | 70 => ⟨S1000000, .i32⟩
  | 71 => ⟨S_, .i32⟩
  | 72 => ⟨S1000000, .i32⟩
  | 73 => ⟨S1000000, .i32⟩
  | 74 => ⟨S1000000, .i32⟩
  | 75 => ⟨S_, .i32⟩
  | 76 => ⟨S1000000, .i32⟩
  | 77 => ⟨S1000000, .i32⟩
  | 78 => ⟨S_, .i32⟩
  | 79 => ⟨S1000000, .i32⟩
  | 80 => ⟨S1000000, .i32⟩
  | 81 => ⟨S1000000, .i32⟩
  | 82 => ⟨S1000000, .i32⟩
  | 83 => ⟨S1000000, .i32⟩
  | 84 => ⟨S_, .i32⟩
  | 85 => ⟨S1000000, .i32⟩
  | 86 => ⟨S1000000, .i32⟩
  | 87 => ⟨S_, .i32⟩
  | 88 => ⟨S1000000, .i32⟩
  | 89 => ⟨S1000000, .i32⟩
  | 90 => ⟨S1000000, .i32⟩
  | 91 => ⟨S1000000, .i32⟩
  | 92 => ⟨S1000000, .i32⟩
  | 93 => ⟨S_, .i32⟩
  | 94 => ⟨S1000000, .i32⟩
  | 95 => ⟨S1000000, .i32⟩
  | 96 => ⟨S_, .i32⟩
  | 97 => ⟨S1000000, .i32⟩
  | 98 => ⟨S1000000, .i32⟩
  | 99 => ⟨S1000000, .i32⟩
  | 100 => ⟨S1000000, .i32⟩
  | 101 => ⟨S1000000, .i32⟩
  | 102 => ⟨S_, .i32⟩
  | 103 => ⟨S1000000, .i32⟩
  | 104 => ⟨S1000000, .i32⟩
  | 105 => ⟨S_, .i32⟩
  | 106 => ⟨S1000000, .i32⟩
  | 107 => ⟨S1000000, .i32⟩
  | 108 => ⟨S1000000, .i32⟩
  | 109 => ⟨S1000000, .i32⟩
  | 110 => ⟨S1000000, .i32⟩
  | 111 => ⟨S1000000, .i32⟩
  | 112 => ⟨S1000000, .i32⟩
  | 113 => ⟨S1000000, .i32⟩
  | 114 => ⟨S_, .i32⟩
  | 115 => ⟨S1000000, .i32⟩
  | 116 => ⟨S1000000, .i32⟩
  | 117 => ⟨S1000000, .i32⟩
  | 118 => ⟨S_, .i32⟩
  | 119 => ⟨S1000000, .i32⟩
  | 120 => ⟨S1000000, .i32⟩
  | 121 => ⟨S_, .i32⟩
  | 122 => ⟨S1000000, .i32⟩
  | 123 => ⟨S1000000, .i32⟩
  | 124 => ⟨S1000000, .i32⟩
  | 125 => ⟨S1000000, .i32⟩
  | 126 => ⟨S1000000, .i32⟩
  | 127 => ⟨S_, .i32⟩
  | _ => ⟨S1000000x64, .f32⟩

abbrev hbmTy0_7 (i : Nat) : BufTy := match i % 128 with
  | 0 => ⟨S1000000, .i32⟩
  | 1 => ⟨S1000000, .i32⟩
  | 2 => ⟨S_, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S_, .i32⟩
  | 9 => ⟨S1000000, .i32⟩
  | 10 => ⟨S1000000, .i32⟩
  | 11 => ⟨S_, .i32⟩
  | 12 => ⟨S1000000, .i32⟩
  | 13 => ⟨S1000000, .i32⟩
  | 14 => ⟨S1000000, .i32⟩
  | 15 => ⟨S1000000, .i32⟩
  | 16 => ⟨S1000000, .i32⟩
  | 17 => ⟨S_, .i32⟩
  | 18 => ⟨S1000000, .i32⟩
  | 19 => ⟨S1000000, .i32⟩
  | 20 => ⟨S_, .i32⟩
  | 21 => ⟨S1000000, .i32⟩
  | 22 => ⟨S1000000, .i32⟩
  | 23 => ⟨S1000000, .i32⟩
  | 24 => ⟨S1000000, .i32⟩
  | 25 => ⟨S1000000, .i32⟩
  | 26 => ⟨S1000000, .i32⟩
  | 27 => ⟨S1000000, .i32⟩
  | 28 => ⟨S1000000, .i32⟩
  | 29 => ⟨S_, .i32⟩
  | 30 => ⟨S1000000, .i32⟩
  | 31 => ⟨S1000000, .i32⟩
  | 32 => ⟨S1000000, .i32⟩
  | 33 => ⟨S_, .i32⟩
  | 34 => ⟨S1000000, .i32⟩
  | 35 => ⟨S1000000, .i32⟩
  | 36 => ⟨S_, .i32⟩
  | 37 => ⟨S1000000, .i32⟩
  | 38 => ⟨S1000000, .i32⟩
  | 39 => ⟨S1000000, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S_, .i32⟩
  | 46 => ⟨S1000000, .i32⟩
  | 47 => ⟨S1000000, .i32⟩
  | 48 => ⟨S1000000, .i32⟩
  | 49 => ⟨S1000000, .i32⟩
  | 50 => ⟨S1000000, .i32⟩
  | 51 => ⟨S_, .i32⟩
  | 52 => ⟨S1000000, .i32⟩
  | 53 => ⟨S1000000, .i32⟩
  | 54 => ⟨S_, .i32⟩
  | 55 => ⟨S1000000, .i32⟩
  | 56 => ⟨S1000000, .i32⟩
  | 57 => ⟨S1000000, .i32⟩
  | 58 => ⟨S1000000, .i32⟩
  | 59 => ⟨S1000000, .i32⟩
  | 60 => ⟨S_, .i32⟩
  | 61 => ⟨S1000000, .i32⟩
  | 62 => ⟨S1000000, .i32⟩
  | 63 => ⟨S_, .i32⟩
  | 64 => ⟨S1000000, .i32⟩
  | 65 => ⟨S1000000, .i32⟩
  | 66 => ⟨S1000000, .i32⟩
  | 67 => ⟨S1000000, .i32⟩
  | 68 => ⟨S1000000, .i32⟩
  | 69 => ⟨S1000000, .i32⟩
  | 70 => ⟨S1000000, .i32⟩
  | 71 => ⟨S1000000, .i32⟩
  | 72 => ⟨S_, .i32⟩
  | 73 => ⟨S1000000, .i32⟩
  | 74 => ⟨S1000000, .i32⟩
  | 75 => ⟨S1000000, .i32⟩
  | 76 => ⟨S1000000, .i32⟩
  | 77 => ⟨S1000000, .i32⟩
  | 78 => ⟨S100000, .i32⟩
  | 79 => ⟨S_, .i1⟩
  | 80 => ⟨S1000000, .i1⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S_, .i1⟩
  | 90 => ⟨S100000, .i1⟩
  | 91 => ⟨S1000000, .i1⟩
  | 92 => ⟨S64x64, .f32⟩
  | 93 => ⟨S1x64, .f32⟩
  | 94 => ⟨S125x1x8000, .i1⟩
  | 95 => ⟨S125x1x8000, .f32⟩
  | 96 => ⟨S1000000x64, .f32⟩
  | _ => ⟨S1000000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1000000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S1x1x8000, .f32⟩
  | .local _ .vmem, ⟨3, _⟩ => ⟨S1x1x8000, .f32⟩
  | .local _ .vmem, ⟨4, _⟩ => ⟨S64x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_c : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_c_0 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_call0_v0 : Ref sig .tc := ⟨.hbm, 27, rfl⟩
abbrev main_call0_call0_call0_c : Ref sig .tc := ⟨.hbm, 28, rfl⟩
abbrev main_call0_call0_call0_v1 : Ref sig .tc := ⟨.hbm, 29, rfl⟩
abbrev main_call0_call0_call0_v2 : Ref sig .tc := ⟨.hbm, 30, rfl⟩
abbrev main_call0_call0_call0_v3 : Ref sig .tc := ⟨.hbm, 31, rfl⟩
abbrev main_call0_call0_call0_v4 : Ref sig .tc := ⟨.hbm, 32, rfl⟩
abbrev main_call0_call0_call0_v5 : Ref sig .tc := ⟨.hbm, 33, rfl⟩
abbrev main_call0_call0_call0_v6 : Ref sig .tc := ⟨.hbm, 34, rfl⟩
abbrev main_call0_call0_call0_c_0 : Ref sig .tc := ⟨.hbm, 35, rfl⟩
abbrev main_call0_call0_call0_v7 : Ref sig .tc := ⟨.hbm, 36, rfl⟩
abbrev main_call0_call0_call0_v8 : Ref sig .tc := ⟨.hbm, 37, rfl⟩
abbrev main_call0_call0_call0_c_1 : Ref sig .tc := ⟨.hbm, 38, rfl⟩
abbrev main_call0_call0_call0_v9 : Ref sig .tc := ⟨.hbm, 39, rfl⟩
abbrev main_call0_call0_call0_v10 : Ref sig .tc := ⟨.hbm, 40, rfl⟩
abbrev main_call0_call0_call0_v11 : Ref sig .tc := ⟨.hbm, 41, rfl⟩
abbrev main_call0_call0_call0_v12 : Ref sig .tc := ⟨.hbm, 42, rfl⟩
abbrev main_call0_call0_call0_v13 : Ref sig .tc := ⟨.hbm, 43, rfl⟩
abbrev main_call0_call0_call0_c_2 : Ref sig .tc := ⟨.hbm, 44, rfl⟩
abbrev main_call0_call0_call0_v14 : Ref sig .tc := ⟨.hbm, 45, rfl⟩
abbrev main_call0_call0_call0_v15 : Ref sig .tc := ⟨.hbm, 46, rfl⟩
abbrev main_call0_call0_call0_c_3 : Ref sig .tc := ⟨.hbm, 47, rfl⟩
abbrev main_call0_call0_call0_v16 : Ref sig .tc := ⟨.hbm, 48, rfl⟩
abbrev main_call0_call0_call0_v17 : Ref sig .tc := ⟨.hbm, 49, rfl⟩
abbrev main_call0_call0_call0_v18 : Ref sig .tc := ⟨.hbm, 50, rfl⟩
abbrev main_call0_call0_call0_v19 : Ref sig .tc := ⟨.hbm, 51, rfl⟩
abbrev main_call0_call0_call0_v20 : Ref sig .tc := ⟨.hbm, 52, rfl⟩
abbrev main_call0_call0_call0_c_4 : Ref sig .tc := ⟨.hbm, 53, rfl⟩
abbrev main_call0_call0_call0_v21 : Ref sig .tc := ⟨.hbm, 54, rfl⟩
abbrev main_call0_call0_call0_v22 : Ref sig .tc := ⟨.hbm, 55, rfl⟩
abbrev main_call0_call0_call0_c_5 : Ref sig .tc := ⟨.hbm, 56, rfl⟩
abbrev main_call0_call0_call0_v23 : Ref sig .tc := ⟨.hbm, 57, rfl⟩
abbrev main_call0_call0_call0_v24 : Ref sig .tc := ⟨.hbm, 58, rfl⟩
abbrev main_call0_call0_call0_v25 : Ref sig .tc := ⟨.hbm, 59, rfl⟩
abbrev main_call0_call0_call0_v26 : Ref sig .tc := ⟨.hbm, 60, rfl⟩
abbrev main_call0_call0_call0_v27 : Ref sig .tc := ⟨.hbm, 61, rfl⟩
abbrev main_call0_call0_call0_c_6 : Ref sig .tc := ⟨.hbm, 62, rfl⟩
abbrev main_call0_call0_call0_v28 : Ref sig .tc := ⟨.hbm, 63, rfl⟩
abbrev main_call0_call0_call0_v29 : Ref sig .tc := ⟨.hbm, 64, rfl⟩
abbrev main_call0_call0_call0_c_7 : Ref sig .tc := ⟨.hbm, 65, rfl⟩
abbrev main_call0_call0_call0_v30 : Ref sig .tc := ⟨.hbm, 66, rfl⟩
abbrev main_call0_call0_call0_v31 : Ref sig .tc := ⟨.hbm, 67, rfl⟩
abbrev main_call0_call0_call0_v32 : Ref sig .tc := ⟨.hbm, 68, rfl⟩
abbrev main_call0_call0_call0_v33 : Ref sig .tc := ⟨.hbm, 69, rfl⟩
abbrev main_call0_call0_call0_v34 : Ref sig .tc := ⟨.hbm, 70, rfl⟩
abbrev main_call0_call0_call0_v35 : Ref sig .tc := ⟨.hbm, 71, rfl⟩
abbrev main_call0_call0_call0_v36 : Ref sig .tc := ⟨.hbm, 72, rfl⟩
abbrev main_call0_call0_call0_v37 : Ref sig .tc := ⟨.hbm, 73, rfl⟩
abbrev main_call0_call0_call0_c_8 : Ref sig .tc := ⟨.hbm, 74, rfl⟩
abbrev main_call0_call0_call0_v38 : Ref sig .tc := ⟨.hbm, 75, rfl⟩
abbrev main_call0_call0_call0_v39 : Ref sig .tc := ⟨.hbm, 76, rfl⟩
abbrev main_call0_call0_call0_v40 : Ref sig .tc := ⟨.hbm, 77, rfl⟩
abbrev main_call0_call0_call0_c_9 : Ref sig .tc := ⟨.hbm, 78, rfl⟩
abbrev main_call0_call0_call0_v41 : Ref sig .tc := ⟨.hbm, 79, rfl⟩
abbrev main_call0_call0_call0_v42 : Ref sig .tc := ⟨.hbm, 80, rfl⟩
abbrev main_call0_call0_call0_c_10 : Ref sig .tc := ⟨.hbm, 81, rfl⟩
abbrev main_call0_call0_call0_v43 : Ref sig .tc := ⟨.hbm, 82, rfl⟩
abbrev main_call0_call0_call0_v44 : Ref sig .tc := ⟨.hbm, 83, rfl⟩
abbrev main_call0_call0_call0_v45 : Ref sig .tc := ⟨.hbm, 84, rfl⟩
abbrev main_call0_call0_call0_v46 : Ref sig .tc := ⟨.hbm, 85, rfl⟩
abbrev main_call0_call0_call0_v47 : Ref sig .tc := ⟨.hbm, 86, rfl⟩
abbrev main_call0_call0_call0_c_11 : Ref sig .tc := ⟨.hbm, 87, rfl⟩
abbrev main_call0_call0_call0_v48 : Ref sig .tc := ⟨.hbm, 88, rfl⟩
abbrev main_call0_call0_call0_v49 : Ref sig .tc := ⟨.hbm, 89, rfl⟩
abbrev main_call0_call0_call0_c_12 : Ref sig .tc := ⟨.hbm, 90, rfl⟩
abbrev main_call0_call0_call0_v50 : Ref sig .tc := ⟨.hbm, 91, rfl⟩
abbrev main_call0_call0_call0_v51 : Ref sig .tc := ⟨.hbm, 92, rfl⟩
abbrev main_call0_call0_call0_v52 : Ref sig .tc := ⟨.hbm, 93, rfl⟩
abbrev main_call0_call0_call0_v53 : Ref sig .tc := ⟨.hbm, 94, rfl⟩
abbrev main_call0_call0_call0_v54 : Ref sig .tc := ⟨.hbm, 95, rfl⟩
abbrev main_call0_call0_call0_c_13 : Ref sig .tc := ⟨.hbm, 96, rfl⟩
abbrev main_call0_call0_call0_v55 : Ref sig .tc := ⟨.hbm, 97, rfl⟩
abbrev main_call0_call0_call0_v56 : Ref sig .tc := ⟨.hbm, 98, rfl⟩
abbrev main_call0_call0_call0_c_14 : Ref sig .tc := ⟨.hbm, 99, rfl⟩
abbrev main_call0_call0_call0_v57 : Ref sig .tc := ⟨.hbm, 100, rfl⟩
abbrev main_call0_call0_call0_v58 : Ref sig .tc := ⟨.hbm, 101, rfl⟩
abbrev main_call0_call0_call0_v59 : Ref sig .tc := ⟨.hbm, 102, rfl⟩
abbrev main_call0_call0_call0_v60 : Ref sig .tc := ⟨.hbm, 103, rfl⟩
abbrev main_call0_call0_call0_v61 : Ref sig .tc := ⟨.hbm, 104, rfl⟩
abbrev main_call0_call0_call0_c_15 : Ref sig .tc := ⟨.hbm, 105, rfl⟩
abbrev main_call0_call0_call0_v62 : Ref sig .tc := ⟨.hbm, 106, rfl⟩
abbrev main_call0_call0_call0_v63 : Ref sig .tc := ⟨.hbm, 107, rfl⟩
abbrev main_call0_call0_call0_c_16 : Ref sig .tc := ⟨.hbm, 108, rfl⟩
abbrev main_call0_call0_call0_v64 : Ref sig .tc := ⟨.hbm, 109, rfl⟩
abbrev main_call0_call0_call0_v65 : Ref sig .tc := ⟨.hbm, 110, rfl⟩
abbrev main_call0_call0_call0_v66 : Ref sig .tc := ⟨.hbm, 111, rfl⟩
abbrev main_call0_call0_call0_v67 : Ref sig .tc := ⟨.hbm, 112, rfl⟩
abbrev main_call0_call0_call0_v68 : Ref sig .tc := ⟨.hbm, 113, rfl⟩
abbrev main_call0_call0_call0_v69 : Ref sig .tc := ⟨.hbm, 114, rfl⟩
abbrev main_call0_call0_call0_v70 : Ref sig .tc := ⟨.hbm, 115, rfl⟩
abbrev main_call0_call0_call0_v71 : Ref sig .tc := ⟨.hbm, 116, rfl⟩
abbrev main_call0_call0_call0_c_17 : Ref sig .tc := ⟨.hbm, 117, rfl⟩
abbrev main_call0_call0_call0_v72 : Ref sig .tc := ⟨.hbm, 118, rfl⟩
abbrev main_call0_call0_call0_v73 : Ref sig .tc := ⟨.hbm, 119, rfl⟩
abbrev main_call0_call0_call0_v74 : Ref sig .tc := ⟨.hbm, 120, rfl⟩
abbrev main_call0_call0_call0_c_18 : Ref sig .tc := ⟨.hbm, 121, rfl⟩
abbrev main_call0_call0_call0_v75 : Ref sig .tc := ⟨.hbm, 122, rfl⟩
abbrev main_call0_call0_call0_v76 : Ref sig .tc := ⟨.hbm, 123, rfl⟩
abbrev main_call0_call0_call0_c_19 : Ref sig .tc := ⟨.hbm, 124, rfl⟩
abbrev main_call0_call0_call0_v77 : Ref sig .tc := ⟨.hbm, 125, rfl⟩
abbrev main_call0_call0_call0_v78 : Ref sig .tc := ⟨.hbm, 126, rfl⟩
abbrev main_call0_call0_call0_v79 : Ref sig .tc := ⟨.hbm, 127, rfl⟩
abbrev main_call0_call0_call0_v80 : Ref sig .tc := ⟨.hbm, 128, rfl⟩
abbrev main_call0_call0_call0_v81 : Ref sig .tc := ⟨.hbm, 129, rfl⟩
abbrev main_call0_call0_call0_c_20 : Ref sig .tc := ⟨.hbm, 130, rfl⟩
abbrev main_call0_call0_call0_v82 : Ref sig .tc := ⟨.hbm, 131, rfl⟩
abbrev main_call0_call0_call0_v83 : Ref sig .tc := ⟨.hbm, 132, rfl⟩
abbrev main_call0_call0_call0_c_21 : Ref sig .tc := ⟨.hbm, 133, rfl⟩
abbrev main_call0_call0_call0_v84 : Ref sig .tc := ⟨.hbm, 134, rfl⟩
abbrev main_call0_call0_call0_v85 : Ref sig .tc := ⟨.hbm, 135, rfl⟩
abbrev main_call0_call0_call0_v86 : Ref sig .tc := ⟨.hbm, 136, rfl⟩
abbrev main_call0_call0_call0_v87 : Ref sig .tc := ⟨.hbm, 137, rfl⟩
abbrev main_call0_call0_call0_v88 : Ref sig .tc := ⟨.hbm, 138, rfl⟩
abbrev main_call0_call0_call0_c_22 : Ref sig .tc := ⟨.hbm, 139, rfl⟩
abbrev main_call0_call0_call0_v89 : Ref sig .tc := ⟨.hbm, 140, rfl⟩
abbrev main_call0_call0_call0_v90 : Ref sig .tc := ⟨.hbm, 141, rfl⟩
abbrev main_call0_call0_call0_c_23 : Ref sig .tc := ⟨.hbm, 142, rfl⟩
abbrev main_call0_call0_call0_v91 : Ref sig .tc := ⟨.hbm, 143, rfl⟩
abbrev main_call0_call0_call0_v92 : Ref sig .tc := ⟨.hbm, 144, rfl⟩
abbrev main_call0_call0_call0_v93 : Ref sig .tc := ⟨.hbm, 145, rfl⟩
abbrev main_call0_call0_call0_v94 : Ref sig .tc := ⟨.hbm, 146, rfl⟩
abbrev main_call0_call0_call0_v95 : Ref sig .tc := ⟨.hbm, 147, rfl⟩
abbrev main_call0_call0_call0_c_24 : Ref sig .tc := ⟨.hbm, 148, rfl⟩
abbrev main_call0_call0_call0_v96 : Ref sig .tc := ⟨.hbm, 149, rfl⟩
abbrev main_call0_call0_call0_v97 : Ref sig .tc := ⟨.hbm, 150, rfl⟩
abbrev main_call0_call0_call0_c_25 : Ref sig .tc := ⟨.hbm, 151, rfl⟩
abbrev main_call0_call0_call0_v98 : Ref sig .tc := ⟨.hbm, 152, rfl⟩
abbrev main_call0_call0_call0_v99 : Ref sig .tc := ⟨.hbm, 153, rfl⟩
abbrev main_call0_call0_call0_v100 : Ref sig .tc := ⟨.hbm, 154, rfl⟩
abbrev main_call0_call0_call0_v101 : Ref sig .tc := ⟨.hbm, 155, rfl⟩
abbrev main_call0_call0_call0_v102 : Ref sig .tc := ⟨.hbm, 156, rfl⟩
abbrev main_call0_call0_call0_v103 : Ref sig .tc := ⟨.hbm, 157, rfl⟩
abbrev main_call0_call0_call0_v104 : Ref sig .tc := ⟨.hbm, 158, rfl⟩
abbrev main_call0_call0_call0_v105 : Ref sig .tc := ⟨.hbm, 159, rfl⟩
abbrev main_call0_call0_call0_c_26 : Ref sig .tc := ⟨.hbm, 160, rfl⟩
abbrev main_call0_call0_call0_v106 : Ref sig .tc := ⟨.hbm, 161, rfl⟩
abbrev main_call0_call0_call0_v107 : Ref sig .tc := ⟨.hbm, 162, rfl⟩
abbrev main_call0_call0_call0_v108 : Ref sig .tc := ⟨.hbm, 163, rfl⟩
abbrev main_call0_call0_call0_c_27 : Ref sig .tc := ⟨.hbm, 164, rfl⟩
abbrev main_call0_call0_call0_v109 : Ref sig .tc := ⟨.hbm, 165, rfl⟩
abbrev main_call0_call0_call0_v110 : Ref sig .tc := ⟨.hbm, 166, rfl⟩
abbrev main_call0_call0_call0_c_28 : Ref sig .tc := ⟨.hbm, 167, rfl⟩
abbrev main_call0_call0_call0_v111 : Ref sig .tc := ⟨.hbm, 168, rfl⟩
abbrev main_call0_call0_call0_v112 : Ref sig .tc := ⟨.hbm, 169, rfl⟩
abbrev main_call0_call0_call0_v113 : Ref sig .tc := ⟨.hbm, 170, rfl⟩
abbrev main_call0_call0_call0_v114 : Ref sig .tc := ⟨.hbm, 171, rfl⟩
abbrev main_call0_call0_call0_v115 : Ref sig .tc := ⟨.hbm, 172, rfl⟩
abbrev main_call0_call0_call0_c_29 : Ref sig .tc := ⟨.hbm, 173, rfl⟩
abbrev main_call0_call0_call0_v116 : Ref sig .tc := ⟨.hbm, 174, rfl⟩
abbrev main_call0_call0_call0_v117 : Ref sig .tc := ⟨.hbm, 175, rfl⟩
abbrev main_call0_call0_call0_c_30 : Ref sig .tc := ⟨.hbm, 176, rfl⟩
abbrev main_call0_call0_call0_v118 : Ref sig .tc := ⟨.hbm, 177, rfl⟩
abbrev main_call0_call0_call0_v119 : Ref sig .tc := ⟨.hbm, 178, rfl⟩
abbrev main_call0_call0_call0_v120 : Ref sig .tc := ⟨.hbm, 179, rfl⟩
abbrev main_call0_call0_call0_v121 : Ref sig .tc := ⟨.hbm, 180, rfl⟩
abbrev main_call0_call0_call0_v122 : Ref sig .tc := ⟨.hbm, 181, rfl⟩
abbrev main_call0_call0_call0_c_31 : Ref sig .tc := ⟨.hbm, 182, rfl⟩
abbrev main_call0_call0_call0_v123 : Ref sig .tc := ⟨.hbm, 183, rfl⟩
abbrev main_call0_call0_call0_v124 : Ref sig .tc := ⟨.hbm, 184, rfl⟩
abbrev main_call0_call0_call0_c_32 : Ref sig .tc := ⟨.hbm, 185, rfl⟩
abbrev main_call0_call0_call0_v125 : Ref sig .tc := ⟨.hbm, 186, rfl⟩
abbrev main_call0_call0_call0_v126 : Ref sig .tc := ⟨.hbm, 187, rfl⟩
abbrev main_call0_call0_call0_v127 : Ref sig .tc := ⟨.hbm, 188, rfl⟩
abbrev main_call0_call0_call0_v128 : Ref sig .tc := ⟨.hbm, 189, rfl⟩
abbrev main_call0_call0_call0_v129 : Ref sig .tc := ⟨.hbm, 190, rfl⟩
abbrev main_call0_call0_call0_c_33 : Ref sig .tc := ⟨.hbm, 191, rfl⟩
abbrev main_call0_call0_call0_v130 : Ref sig .tc := ⟨.hbm, 192, rfl⟩
abbrev main_call0_call0_call0_v131 : Ref sig .tc := ⟨.hbm, 193, rfl⟩
abbrev main_call0_call0_call0_c_34 : Ref sig .tc := ⟨.hbm, 194, rfl⟩
abbrev main_call0_call0_call0_v132 : Ref sig .tc := ⟨.hbm, 195, rfl⟩
abbrev main_call0_call0_call0_v133 : Ref sig .tc := ⟨.hbm, 196, rfl⟩
abbrev main_call0_call0_call0_v134 : Ref sig .tc := ⟨.hbm, 197, rfl⟩
abbrev main_call0_call0_call0_v135 : Ref sig .tc := ⟨.hbm, 198, rfl⟩
abbrev main_call0_call0_call0_v136 : Ref sig .tc := ⟨.hbm, 199, rfl⟩
abbrev main_call0_call0_call0_v137 : Ref sig .tc := ⟨.hbm, 200, rfl⟩
abbrev main_call0_call0_call0_v138 : Ref sig .tc := ⟨.hbm, 201, rfl⟩
abbrev main_call0_call0_call0_v139 : Ref sig .tc := ⟨.hbm, 202, rfl⟩
abbrev main_call0_call0_call0_c_35 : Ref sig .tc := ⟨.hbm, 203, rfl⟩
abbrev main_call0_call0_call0_v140 : Ref sig .tc := ⟨.hbm, 204, rfl⟩
abbrev main_call0_call0_call0_v141 : Ref sig .tc := ⟨.hbm, 205, rfl⟩
abbrev main_call0_call0_call0_v142 : Ref sig .tc := ⟨.hbm, 206, rfl⟩
abbrev main_call0_call0_call0_c_36 : Ref sig .tc := ⟨.hbm, 207, rfl⟩
abbrev main_call0_call0_call0_v143 : Ref sig .tc := ⟨.hbm, 208, rfl⟩
abbrev main_call0_call0_call0_v144 : Ref sig .tc := ⟨.hbm, 209, rfl⟩
abbrev main_call0_call0_call0_c_37 : Ref sig .tc := ⟨.hbm, 210, rfl⟩
abbrev main_call0_call0_call0_v145 : Ref sig .tc := ⟨.hbm, 211, rfl⟩
abbrev main_call0_call0_call0_v146 : Ref sig .tc := ⟨.hbm, 212, rfl⟩
abbrev main_call0_call0_call0_v147 : Ref sig .tc := ⟨.hbm, 213, rfl⟩
abbrev main_call0_call0_call0_v148 : Ref sig .tc := ⟨.hbm, 214, rfl⟩
abbrev main_call0_call0_call0_v149 : Ref sig .tc := ⟨.hbm, 215, rfl⟩
abbrev main_call0_call0_call0_c_38 : Ref sig .tc := ⟨.hbm, 216, rfl⟩
abbrev main_call0_call0_call0_v150 : Ref sig .tc := ⟨.hbm, 217, rfl⟩
abbrev main_call0_call0_call0_v151 : Ref sig .tc := ⟨.hbm, 218, rfl⟩
abbrev main_call0_call0_call0_c_39 : Ref sig .tc := ⟨.hbm, 219, rfl⟩
abbrev main_call0_call0_call0_v152 : Ref sig .tc := ⟨.hbm, 220, rfl⟩
abbrev main_call0_call0_call0_v153 : Ref sig .tc := ⟨.hbm, 221, rfl⟩
abbrev main_call0_call0_call0_v154 : Ref sig .tc := ⟨.hbm, 222, rfl⟩
abbrev main_call0_call0_call0_v155 : Ref sig .tc := ⟨.hbm, 223, rfl⟩
abbrev main_call0_call0_call0_v156 : Ref sig .tc := ⟨.hbm, 224, rfl⟩
abbrev main_call0_call0_call0_c_40 : Ref sig .tc := ⟨.hbm, 225, rfl⟩
abbrev main_call0_call0_call0_v157 : Ref sig .tc := ⟨.hbm, 226, rfl⟩
abbrev main_call0_call0_call0_v158 : Ref sig .tc := ⟨.hbm, 227, rfl⟩
abbrev main_call0_call0_call0_c_41 : Ref sig .tc := ⟨.hbm, 228, rfl⟩
abbrev main_call0_call0_call0_v159 : Ref sig .tc := ⟨.hbm, 229, rfl⟩
abbrev main_call0_call0_call0_v160 : Ref sig .tc := ⟨.hbm, 230, rfl⟩
abbrev main_call0_call0_call0_v161 : Ref sig .tc := ⟨.hbm, 231, rfl⟩
abbrev main_call0_call0_call0_v162 : Ref sig .tc := ⟨.hbm, 232, rfl⟩
abbrev main_call0_call0_call0_v163 : Ref sig .tc := ⟨.hbm, 233, rfl⟩
abbrev main_call0_call0_call0_c_42 : Ref sig .tc := ⟨.hbm, 234, rfl⟩
abbrev main_call0_call0_call0_v164 : Ref sig .tc := ⟨.hbm, 235, rfl⟩
abbrev main_call0_call0_call0_v165 : Ref sig .tc := ⟨.hbm, 236, rfl⟩
abbrev main_call0_call0_call0_c_43 : Ref sig .tc := ⟨.hbm, 237, rfl⟩
abbrev main_call0_call0_call0_v166 : Ref sig .tc := ⟨.hbm, 238, rfl⟩
abbrev main_call0_call0_call0_v167 : Ref sig .tc := ⟨.hbm, 239, rfl⟩
abbrev main_call0_call0_call0_v168 : Ref sig .tc := ⟨.hbm, 240, rfl⟩
abbrev main_call0_call0_call0_v169 : Ref sig .tc := ⟨.hbm, 241, rfl⟩
abbrev main_call0_call0_call0_v170 : Ref sig .tc := ⟨.hbm, 242, rfl⟩
abbrev main_call0_call0_v11_0 : Ref sig .tc := ⟨.hbm, 243, rfl⟩
abbrev main_call0_call0_call0_v172 : Ref sig .tc := ⟨.hbm, 244, rfl⟩
abbrev main_call0_call0_call0_v173 : Ref sig .tc := ⟨.hbm, 245, rfl⟩
abbrev main_call0_call0_call0_c_44 : Ref sig .tc := ⟨.hbm, 246, rfl⟩
abbrev main_call0_call0_call0_v174 : Ref sig .tc := ⟨.hbm, 247, rfl⟩
abbrev main_call0_call0_v11_1 : Ref sig .tc := ⟨.hbm, 248, rfl⟩
abbrev main_call0_call0_v12 : Ref sig .tc := ⟨.hbm, 249, rfl⟩
abbrev main_call0_call0_v13 : Ref sig .tc := ⟨.hbm, 250, rfl⟩
abbrev main_call0_v0 : Ref sig .tc := ⟨.hbm, 251, rfl⟩
abbrev main_call0_v1 : Ref sig .tc := ⟨.hbm, 252, rfl⟩
abbrev main_call0_v2 : Ref sig .tc := ⟨.hbm, 253, rfl⟩
abbrev main_call0_v3 : Ref sig .tc := ⟨.hbm, 254, rfl⟩
abbrev main_call0_v4 : Ref sig .tc := ⟨.hbm, 255, rfl⟩
abbrev main_call0_v5 : Ref sig .tc := ⟨.hbm, 256, rfl⟩
abbrev main_call0_v6 : Ref sig .tc := ⟨.hbm, 257, rfl⟩
abbrev main_call0_v7 : Ref sig .tc := ⟨.hbm, 258, rfl⟩
abbrev main_call0_v8 : Ref sig .tc := ⟨.hbm, 259, rfl⟩
abbrev main_call0_v9 : Ref sig .tc := ⟨.hbm, 260, rfl⟩
abbrev main_call0_c : Ref sig .tc := ⟨.hbm, 261, rfl⟩
abbrev main_call0_v10 : Ref sig .tc := ⟨.hbm, 262, rfl⟩
abbrev main_call0_v11 : Ref sig .tc := ⟨.hbm, 263, rfl⟩
abbrev main_call0_c_0 : Ref sig .tc := ⟨.hbm, 264, rfl⟩
abbrev main_call0_v12 : Ref sig .tc := ⟨.hbm, 265, rfl⟩
abbrev main_call0_v13 : Ref sig .tc := ⟨.hbm, 266, rfl⟩
abbrev main_call0_v14 : Ref sig .tc := ⟨.hbm, 267, rfl⟩
abbrev main_call0_v15 : Ref sig .tc := ⟨.hbm, 268, rfl⟩
abbrev main_call0_call1_v0 : Ref sig .tc := ⟨.hbm, 269, rfl⟩
abbrev main_call0_call1_c : Ref sig .tc := ⟨.hbm, 270, rfl⟩
abbrev main_call0_call1_v1 : Ref sig .tc := ⟨.hbm, 271, rfl⟩
abbrev main_call0_call1_v2 : Ref sig .tc := ⟨.hbm, 272, rfl⟩
abbrev main_call0_call1_v3 : Ref sig .tc := ⟨.hbm, 273, rfl⟩
abbrev main_call0_call1_v4 : Ref sig .tc := ⟨.hbm, 274, rfl⟩
abbrev main_call0_call1_v5 : Ref sig .tc := ⟨.hbm, 275, rfl⟩
abbrev main_call0_call1_v6 : Ref sig .tc := ⟨.hbm, 276, rfl⟩
abbrev main_call0_call1_c_0 : Ref sig .tc := ⟨.hbm, 277, rfl⟩
abbrev main_call0_call1_v7 : Ref sig .tc := ⟨.hbm, 278, rfl⟩
abbrev main_call0_call1_v8 : Ref sig .tc := ⟨.hbm, 279, rfl⟩
abbrev main_call0_call1_c_1 : Ref sig .tc := ⟨.hbm, 280, rfl⟩
abbrev main_call0_call1_v9 : Ref sig .tc := ⟨.hbm, 281, rfl⟩
abbrev main_call0_call1_v10 : Ref sig .tc := ⟨.hbm, 282, rfl⟩
abbrev main_call0_call1_v11 : Ref sig .tc := ⟨.hbm, 283, rfl⟩
abbrev main_call0_call1_v12 : Ref sig .tc := ⟨.hbm, 284, rfl⟩
abbrev main_call0_call1_v13 : Ref sig .tc := ⟨.hbm, 285, rfl⟩
abbrev main_call0_call1_c_2 : Ref sig .tc := ⟨.hbm, 286, rfl⟩
abbrev main_call0_call1_v14 : Ref sig .tc := ⟨.hbm, 287, rfl⟩
abbrev main_call0_call1_v15 : Ref sig .tc := ⟨.hbm, 288, rfl⟩
abbrev main_call0_call1_c_3 : Ref sig .tc := ⟨.hbm, 289, rfl⟩
abbrev main_call0_call1_v16 : Ref sig .tc := ⟨.hbm, 290, rfl⟩
abbrev main_call0_call1_v17 : Ref sig .tc := ⟨.hbm, 291, rfl⟩
abbrev main_call0_call1_v18 : Ref sig .tc := ⟨.hbm, 292, rfl⟩
abbrev main_call0_call1_v19 : Ref sig .tc := ⟨.hbm, 293, rfl⟩
abbrev main_call0_call1_v20 : Ref sig .tc := ⟨.hbm, 294, rfl⟩
abbrev main_call0_call1_c_4 : Ref sig .tc := ⟨.hbm, 295, rfl⟩
abbrev main_call0_call1_v21 : Ref sig .tc := ⟨.hbm, 296, rfl⟩
abbrev main_call0_call1_v22 : Ref sig .tc := ⟨.hbm, 297, rfl⟩
abbrev main_call0_call1_c_5 : Ref sig .tc := ⟨.hbm, 298, rfl⟩
abbrev main_call0_call1_v23 : Ref sig .tc := ⟨.hbm, 299, rfl⟩
abbrev main_call0_call1_v24 : Ref sig .tc := ⟨.hbm, 300, rfl⟩
abbrev main_call0_call1_v25 : Ref sig .tc := ⟨.hbm, 301, rfl⟩
abbrev main_call0_call1_v26 : Ref sig .tc := ⟨.hbm, 302, rfl⟩
abbrev main_call0_call1_v27 : Ref sig .tc := ⟨.hbm, 303, rfl⟩
abbrev main_call0_call1_c_6 : Ref sig .tc := ⟨.hbm, 304, rfl⟩
abbrev main_call0_call1_v28 : Ref sig .tc := ⟨.hbm, 305, rfl⟩
abbrev main_call0_call1_v29 : Ref sig .tc := ⟨.hbm, 306, rfl⟩
abbrev main_call0_call1_c_7 : Ref sig .tc := ⟨.hbm, 307, rfl⟩
abbrev main_call0_call1_v30 : Ref sig .tc := ⟨.hbm, 308, rfl⟩
abbrev main_call0_call1_v31 : Ref sig .tc := ⟨.hbm, 309, rfl⟩
abbrev main_call0_call1_v32 : Ref sig .tc := ⟨.hbm, 310, rfl⟩
abbrev main_call0_call1_v33 : Ref sig .tc := ⟨.hbm, 311, rfl⟩
abbrev main_call0_call1_v34 : Ref sig .tc := ⟨.hbm, 312, rfl⟩
abbrev main_call0_call1_v35 : Ref sig .tc := ⟨.hbm, 313, rfl⟩
abbrev main_call0_call1_v36 : Ref sig .tc := ⟨.hbm, 314, rfl⟩
abbrev main_call0_call1_v37 : Ref sig .tc := ⟨.hbm, 315, rfl⟩
abbrev main_call0_call1_c_8 : Ref sig .tc := ⟨.hbm, 316, rfl⟩
abbrev main_call0_call1_v38 : Ref sig .tc := ⟨.hbm, 317, rfl⟩
abbrev main_call0_call1_v39 : Ref sig .tc := ⟨.hbm, 318, rfl⟩
abbrev main_call0_call1_v40 : Ref sig .tc := ⟨.hbm, 319, rfl⟩
abbrev main_call0_call1_c_9 : Ref sig .tc := ⟨.hbm, 320, rfl⟩
abbrev main_call0_call1_v41 : Ref sig .tc := ⟨.hbm, 321, rfl⟩
abbrev main_call0_call1_v42 : Ref sig .tc := ⟨.hbm, 322, rfl⟩
abbrev main_call0_call1_c_10 : Ref sig .tc := ⟨.hbm, 323, rfl⟩
abbrev main_call0_call1_v43 : Ref sig .tc := ⟨.hbm, 324, rfl⟩
abbrev main_call0_call1_v44 : Ref sig .tc := ⟨.hbm, 325, rfl⟩
abbrev main_call0_call1_v45 : Ref sig .tc := ⟨.hbm, 326, rfl⟩
abbrev main_call0_call1_v46 : Ref sig .tc := ⟨.hbm, 327, rfl⟩
abbrev main_call0_call1_v47 : Ref sig .tc := ⟨.hbm, 328, rfl⟩
abbrev main_call0_call1_c_11 : Ref sig .tc := ⟨.hbm, 329, rfl⟩
abbrev main_call0_call1_v48 : Ref sig .tc := ⟨.hbm, 330, rfl⟩
abbrev main_call0_call1_v49 : Ref sig .tc := ⟨.hbm, 331, rfl⟩
abbrev main_call0_call1_c_12 : Ref sig .tc := ⟨.hbm, 332, rfl⟩
abbrev main_call0_call1_v50 : Ref sig .tc := ⟨.hbm, 333, rfl⟩
abbrev main_call0_call1_v51 : Ref sig .tc := ⟨.hbm, 334, rfl⟩
abbrev main_call0_call1_v52 : Ref sig .tc := ⟨.hbm, 335, rfl⟩
abbrev main_call0_call1_v53 : Ref sig .tc := ⟨.hbm, 336, rfl⟩
abbrev main_call0_call1_v54 : Ref sig .tc := ⟨.hbm, 337, rfl⟩
abbrev main_call0_call1_c_13 : Ref sig .tc := ⟨.hbm, 338, rfl⟩
abbrev main_call0_call1_v55 : Ref sig .tc := ⟨.hbm, 339, rfl⟩
abbrev main_call0_call1_v56 : Ref sig .tc := ⟨.hbm, 340, rfl⟩
abbrev main_call0_call1_c_14 : Ref sig .tc := ⟨.hbm, 341, rfl⟩
abbrev main_call0_call1_v57 : Ref sig .tc := ⟨.hbm, 342, rfl⟩
abbrev main_call0_call1_v58 : Ref sig .tc := ⟨.hbm, 343, rfl⟩
abbrev main_call0_call1_v59 : Ref sig .tc := ⟨.hbm, 344, rfl⟩
abbrev main_call0_call1_v60 : Ref sig .tc := ⟨.hbm, 345, rfl⟩
abbrev main_call0_call1_v61 : Ref sig .tc := ⟨.hbm, 346, rfl⟩
abbrev main_call0_call1_c_15 : Ref sig .tc := ⟨.hbm, 347, rfl⟩
abbrev main_call0_call1_v62 : Ref sig .tc := ⟨.hbm, 348, rfl⟩
abbrev main_call0_call1_v63 : Ref sig .tc := ⟨.hbm, 349, rfl⟩
abbrev main_call0_call1_c_16 : Ref sig .tc := ⟨.hbm, 350, rfl⟩
abbrev main_call0_call1_v64 : Ref sig .tc := ⟨.hbm, 351, rfl⟩
abbrev main_call0_call1_v65 : Ref sig .tc := ⟨.hbm, 352, rfl⟩
abbrev main_call0_call1_v66 : Ref sig .tc := ⟨.hbm, 353, rfl⟩
abbrev main_call0_call1_v67 : Ref sig .tc := ⟨.hbm, 354, rfl⟩
abbrev main_call0_call1_v68 : Ref sig .tc := ⟨.hbm, 355, rfl⟩
abbrev main_call0_call1_v69 : Ref sig .tc := ⟨.hbm, 356, rfl⟩
abbrev main_call0_call1_v70 : Ref sig .tc := ⟨.hbm, 357, rfl⟩
abbrev main_call0_call1_v71 : Ref sig .tc := ⟨.hbm, 358, rfl⟩
abbrev main_call0_call1_c_17 : Ref sig .tc := ⟨.hbm, 359, rfl⟩
abbrev main_call0_call1_v72 : Ref sig .tc := ⟨.hbm, 360, rfl⟩
abbrev main_call0_call1_v73 : Ref sig .tc := ⟨.hbm, 361, rfl⟩
abbrev main_call0_call1_v74 : Ref sig .tc := ⟨.hbm, 362, rfl⟩
abbrev main_call0_call1_c_18 : Ref sig .tc := ⟨.hbm, 363, rfl⟩
abbrev main_call0_call1_v75 : Ref sig .tc := ⟨.hbm, 364, rfl⟩
abbrev main_call0_call1_v76 : Ref sig .tc := ⟨.hbm, 365, rfl⟩
abbrev main_call0_call1_c_19 : Ref sig .tc := ⟨.hbm, 366, rfl⟩
abbrev main_call0_call1_v77 : Ref sig .tc := ⟨.hbm, 367, rfl⟩
abbrev main_call0_call1_v78 : Ref sig .tc := ⟨.hbm, 368, rfl⟩
abbrev main_call0_call1_v79 : Ref sig .tc := ⟨.hbm, 369, rfl⟩
abbrev main_call0_call1_v80 : Ref sig .tc := ⟨.hbm, 370, rfl⟩
abbrev main_call0_call1_v81 : Ref sig .tc := ⟨.hbm, 371, rfl⟩
abbrev main_call0_call1_c_20 : Ref sig .tc := ⟨.hbm, 372, rfl⟩
abbrev main_call0_call1_v82 : Ref sig .tc := ⟨.hbm, 373, rfl⟩
abbrev main_call0_call1_v83 : Ref sig .tc := ⟨.hbm, 374, rfl⟩
abbrev main_call0_call1_c_21 : Ref sig .tc := ⟨.hbm, 375, rfl⟩
abbrev main_call0_call1_v84 : Ref sig .tc := ⟨.hbm, 376, rfl⟩
abbrev main_call0_call1_v85 : Ref sig .tc := ⟨.hbm, 377, rfl⟩
abbrev main_call0_call1_v86 : Ref sig .tc := ⟨.hbm, 378, rfl⟩
abbrev main_call0_call1_v87 : Ref sig .tc := ⟨.hbm, 379, rfl⟩
abbrev main_call0_call1_v88 : Ref sig .tc := ⟨.hbm, 380, rfl⟩
abbrev main_call0_call1_c_22 : Ref sig .tc := ⟨.hbm, 381, rfl⟩
abbrev main_call0_call1_v89 : Ref sig .tc := ⟨.hbm, 382, rfl⟩
abbrev main_call0_call1_v90 : Ref sig .tc := ⟨.hbm, 383, rfl⟩
abbrev main_call0_call1_c_23 : Ref sig .tc := ⟨.hbm, 384, rfl⟩
abbrev main_call0_call1_v91 : Ref sig .tc := ⟨.hbm, 385, rfl⟩
abbrev main_call0_call1_v92 : Ref sig .tc := ⟨.hbm, 386, rfl⟩
abbrev main_call0_call1_v93 : Ref sig .tc := ⟨.hbm, 387, rfl⟩
abbrev main_call0_call1_v94 : Ref sig .tc := ⟨.hbm, 388, rfl⟩
abbrev main_call0_call1_v95 : Ref sig .tc := ⟨.hbm, 389, rfl⟩
abbrev main_call0_call1_c_24 : Ref sig .tc := ⟨.hbm, 390, rfl⟩
abbrev main_call0_call1_v96 : Ref sig .tc := ⟨.hbm, 391, rfl⟩
abbrev main_call0_call1_v97 : Ref sig .tc := ⟨.hbm, 392, rfl⟩
abbrev main_call0_call1_c_25 : Ref sig .tc := ⟨.hbm, 393, rfl⟩
abbrev main_call0_call1_v98 : Ref sig .tc := ⟨.hbm, 394, rfl⟩
abbrev main_call0_call1_v99 : Ref sig .tc := ⟨.hbm, 395, rfl⟩
abbrev main_call0_call1_v100 : Ref sig .tc := ⟨.hbm, 396, rfl⟩
abbrev main_call0_call1_v101 : Ref sig .tc := ⟨.hbm, 397, rfl⟩
abbrev main_call0_call1_v102 : Ref sig .tc := ⟨.hbm, 398, rfl⟩
abbrev main_call0_call1_v103 : Ref sig .tc := ⟨.hbm, 399, rfl⟩
abbrev main_call0_call1_v104 : Ref sig .tc := ⟨.hbm, 400, rfl⟩
abbrev main_call0_call1_v105 : Ref sig .tc := ⟨.hbm, 401, rfl⟩
abbrev main_call0_call1_c_26 : Ref sig .tc := ⟨.hbm, 402, rfl⟩
abbrev main_call0_call1_v106 : Ref sig .tc := ⟨.hbm, 403, rfl⟩
abbrev main_call0_call1_v107 : Ref sig .tc := ⟨.hbm, 404, rfl⟩
abbrev main_call0_call1_v108 : Ref sig .tc := ⟨.hbm, 405, rfl⟩
abbrev main_call0_call1_c_27 : Ref sig .tc := ⟨.hbm, 406, rfl⟩
abbrev main_call0_call1_v109 : Ref sig .tc := ⟨.hbm, 407, rfl⟩
abbrev main_call0_call1_v110 : Ref sig .tc := ⟨.hbm, 408, rfl⟩
abbrev main_call0_call1_c_28 : Ref sig .tc := ⟨.hbm, 409, rfl⟩
abbrev main_call0_call1_v111 : Ref sig .tc := ⟨.hbm, 410, rfl⟩
abbrev main_call0_call1_v112 : Ref sig .tc := ⟨.hbm, 411, rfl⟩
abbrev main_call0_call1_v113 : Ref sig .tc := ⟨.hbm, 412, rfl⟩
abbrev main_call0_call1_v114 : Ref sig .tc := ⟨.hbm, 413, rfl⟩
abbrev main_call0_call1_v115 : Ref sig .tc := ⟨.hbm, 414, rfl⟩
abbrev main_call0_call1_c_29 : Ref sig .tc := ⟨.hbm, 415, rfl⟩
abbrev main_call0_call1_v116 : Ref sig .tc := ⟨.hbm, 416, rfl⟩
abbrev main_call0_call1_v117 : Ref sig .tc := ⟨.hbm, 417, rfl⟩
abbrev main_call0_call1_c_30 : Ref sig .tc := ⟨.hbm, 418, rfl⟩
abbrev main_call0_call1_v118 : Ref sig .tc := ⟨.hbm, 419, rfl⟩
abbrev main_call0_call1_v119 : Ref sig .tc := ⟨.hbm, 420, rfl⟩
abbrev main_call0_call1_v120 : Ref sig .tc := ⟨.hbm, 421, rfl⟩
abbrev main_call0_call1_v121 : Ref sig .tc := ⟨.hbm, 422, rfl⟩
abbrev main_call0_call1_v122 : Ref sig .tc := ⟨.hbm, 423, rfl⟩
abbrev main_call0_call1_c_31 : Ref sig .tc := ⟨.hbm, 424, rfl⟩
abbrev main_call0_call1_v123 : Ref sig .tc := ⟨.hbm, 425, rfl⟩
abbrev main_call0_call1_v124 : Ref sig .tc := ⟨.hbm, 426, rfl⟩
abbrev main_call0_call1_c_32 : Ref sig .tc := ⟨.hbm, 427, rfl⟩
abbrev main_call0_call1_v125 : Ref sig .tc := ⟨.hbm, 428, rfl⟩
abbrev main_call0_call1_v126 : Ref sig .tc := ⟨.hbm, 429, rfl⟩
abbrev main_call0_call1_v127 : Ref sig .tc := ⟨.hbm, 430, rfl⟩
abbrev main_call0_call1_v128 : Ref sig .tc := ⟨.hbm, 431, rfl⟩
abbrev main_call0_call1_v129 : Ref sig .tc := ⟨.hbm, 432, rfl⟩
abbrev main_call0_call1_c_33 : Ref sig .tc := ⟨.hbm, 433, rfl⟩
abbrev main_call0_call1_v130 : Ref sig .tc := ⟨.hbm, 434, rfl⟩
abbrev main_call0_call1_v131 : Ref sig .tc := ⟨.hbm, 435, rfl⟩
abbrev main_call0_call1_c_34 : Ref sig .tc := ⟨.hbm, 436, rfl⟩
abbrev main_call0_call1_v132 : Ref sig .tc := ⟨.hbm, 437, rfl⟩
abbrev main_call0_call1_v133 : Ref sig .tc := ⟨.hbm, 438, rfl⟩
abbrev main_call0_call1_v134 : Ref sig .tc := ⟨.hbm, 439, rfl⟩
abbrev main_call0_call1_v135 : Ref sig .tc := ⟨.hbm, 440, rfl⟩
abbrev main_call0_call1_v136 : Ref sig .tc := ⟨.hbm, 441, rfl⟩
abbrev main_call0_call1_v137 : Ref sig .tc := ⟨.hbm, 442, rfl⟩
abbrev main_call0_call1_v138 : Ref sig .tc := ⟨.hbm, 443, rfl⟩
abbrev main_call0_call1_v139 : Ref sig .tc := ⟨.hbm, 444, rfl⟩
abbrev main_call0_call1_c_35 : Ref sig .tc := ⟨.hbm, 445, rfl⟩
abbrev main_call0_call1_v140 : Ref sig .tc := ⟨.hbm, 446, rfl⟩
abbrev main_call0_call1_v141 : Ref sig .tc := ⟨.hbm, 447, rfl⟩
abbrev main_call0_call1_v142 : Ref sig .tc := ⟨.hbm, 448, rfl⟩
abbrev main_call0_call1_c_36 : Ref sig .tc := ⟨.hbm, 449, rfl⟩
abbrev main_call0_call1_v143 : Ref sig .tc := ⟨.hbm, 450, rfl⟩
abbrev main_call0_call1_v144 : Ref sig .tc := ⟨.hbm, 451, rfl⟩
abbrev main_call0_call1_c_37 : Ref sig .tc := ⟨.hbm, 452, rfl⟩
abbrev main_call0_call1_v145 : Ref sig .tc := ⟨.hbm, 453, rfl⟩
abbrev main_call0_call1_v146 : Ref sig .tc := ⟨.hbm, 454, rfl⟩
abbrev main_call0_call1_v147 : Ref sig .tc := ⟨.hbm, 455, rfl⟩
abbrev main_call0_call1_v148 : Ref sig .tc := ⟨.hbm, 456, rfl⟩
abbrev main_call0_call1_v149 : Ref sig .tc := ⟨.hbm, 457, rfl⟩
abbrev main_call0_call1_c_38 : Ref sig .tc := ⟨.hbm, 458, rfl⟩
abbrev main_call0_call1_v150 : Ref sig .tc := ⟨.hbm, 459, rfl⟩
abbrev main_call0_call1_v151 : Ref sig .tc := ⟨.hbm, 460, rfl⟩
abbrev main_call0_call1_c_39 : Ref sig .tc := ⟨.hbm, 461, rfl⟩
abbrev main_call0_call1_v152 : Ref sig .tc := ⟨.hbm, 462, rfl⟩
abbrev main_call0_call1_v153 : Ref sig .tc := ⟨.hbm, 463, rfl⟩
abbrev main_call0_call1_v154 : Ref sig .tc := ⟨.hbm, 464, rfl⟩
abbrev main_call0_call1_v155 : Ref sig .tc := ⟨.hbm, 465, rfl⟩
abbrev main_call0_call1_v156 : Ref sig .tc := ⟨.hbm, 466, rfl⟩
abbrev main_call0_call1_c_40 : Ref sig .tc := ⟨.hbm, 467, rfl⟩
abbrev main_call0_call1_v157 : Ref sig .tc := ⟨.hbm, 468, rfl⟩
abbrev main_call0_call1_v158 : Ref sig .tc := ⟨.hbm, 469, rfl⟩
abbrev main_call0_call1_c_41 : Ref sig .tc := ⟨.hbm, 470, rfl⟩
abbrev main_call0_call1_v159 : Ref sig .tc := ⟨.hbm, 471, rfl⟩
abbrev main_call0_call1_v160 : Ref sig .tc := ⟨.hbm, 472, rfl⟩
abbrev main_call0_call1_v161 : Ref sig .tc := ⟨.hbm, 473, rfl⟩
abbrev main_call0_call1_v162 : Ref sig .tc := ⟨.hbm, 474, rfl⟩
abbrev main_call0_call1_v163 : Ref sig .tc := ⟨.hbm, 475, rfl⟩
abbrev main_call0_call1_c_42 : Ref sig .tc := ⟨.hbm, 476, rfl⟩
abbrev main_call0_call1_v164 : Ref sig .tc := ⟨.hbm, 477, rfl⟩
abbrev main_call0_call1_v165 : Ref sig .tc := ⟨.hbm, 478, rfl⟩
abbrev main_call0_call1_c_43 : Ref sig .tc := ⟨.hbm, 479, rfl⟩
abbrev main_call0_call1_v166 : Ref sig .tc := ⟨.hbm, 480, rfl⟩
abbrev main_call0_call1_v167 : Ref sig .tc := ⟨.hbm, 481, rfl⟩
abbrev main_call0_call1_v168 : Ref sig .tc := ⟨.hbm, 482, rfl⟩
abbrev main_call0_call1_v169 : Ref sig .tc := ⟨.hbm, 483, rfl⟩
abbrev main_call0_call1_v170 : Ref sig .tc := ⟨.hbm, 484, rfl⟩
abbrev main_call0_v16_0 : Ref sig .tc := ⟨.hbm, 485, rfl⟩
abbrev main_call0_call1_v172 : Ref sig .tc := ⟨.hbm, 486, rfl⟩
abbrev main_call0_call1_v173 : Ref sig .tc := ⟨.hbm, 487, rfl⟩
abbrev main_call0_call1_c_44 : Ref sig .tc := ⟨.hbm, 488, rfl⟩
abbrev main_call0_call1_v174 : Ref sig .tc := ⟨.hbm, 489, rfl⟩
abbrev main_call0_v16_1 : Ref sig .tc := ⟨.hbm, 490, rfl⟩
abbrev main_call0_v17 : Ref sig .tc := ⟨.hbm, 491, rfl⟩
abbrev main_call0_v18_0 : Ref sig .tc := ⟨.hbm, 492, rfl⟩
abbrev main_call0_v18_1 : Ref sig .tc := ⟨.hbm, 493, rfl⟩
abbrev main_call0_call2_v0 : Ref sig .tc := ⟨.hbm, 494, rfl⟩
abbrev main_call0_call2_v1 : Ref sig .tc := ⟨.hbm, 495, rfl⟩
abbrev main_call0_call2_v2 : Ref sig .tc := ⟨.hbm, 496, rfl⟩
abbrev main_call0_call2_v3 : Ref sig .tc := ⟨.hbm, 497, rfl⟩
abbrev main_call0_call2_v4 : Ref sig .tc := ⟨.hbm, 498, rfl⟩
abbrev main_call0_call2_c : Ref sig .tc := ⟨.hbm, 499, rfl⟩
abbrev main_call0_call2_v5 : Ref sig .tc := ⟨.hbm, 500, rfl⟩
abbrev main_call0_call2_v6 : Ref sig .tc := ⟨.hbm, 501, rfl⟩
abbrev main_call0_call2_c_0 : Ref sig .tc := ⟨.hbm, 502, rfl⟩
abbrev main_call0_call2_v7 : Ref sig .tc := ⟨.hbm, 503, rfl⟩
abbrev main_call0_call2_v8 : Ref sig .tc := ⟨.hbm, 504, rfl⟩
abbrev main_call0_call2_v9 : Ref sig .tc := ⟨.hbm, 505, rfl⟩
abbrev main_call0_call2_v10 : Ref sig .tc := ⟨.hbm, 506, rfl⟩
abbrev main_call0_call2_call0_v0 : Ref sig .tc := ⟨.hbm, 507, rfl⟩
abbrev main_call0_call2_call0_c : Ref sig .tc := ⟨.hbm, 508, rfl⟩
abbrev main_call0_call2_call0_v1 : Ref sig .tc := ⟨.hbm, 509, rfl⟩
abbrev main_call0_call2_call0_v2 : Ref sig .tc := ⟨.hbm, 510, rfl⟩
abbrev main_call0_call2_call0_v3 : Ref sig .tc := ⟨.hbm, 511, rfl⟩
abbrev main_call0_call2_call0_v4 : Ref sig .tc := ⟨.hbm, 512, rfl⟩
abbrev main_call0_call2_call0_v5 : Ref sig .tc := ⟨.hbm, 513, rfl⟩
abbrev main_call0_call2_call0_v6 : Ref sig .tc := ⟨.hbm, 514, rfl⟩
abbrev main_call0_call2_call0_c_0 : Ref sig .tc := ⟨.hbm, 515, rfl⟩
abbrev main_call0_call2_call0_v7 : Ref sig .tc := ⟨.hbm, 516, rfl⟩
abbrev main_call0_call2_call0_v8 : Ref sig .tc := ⟨.hbm, 517, rfl⟩
abbrev main_call0_call2_call0_c_1 : Ref sig .tc := ⟨.hbm, 518, rfl⟩
abbrev main_call0_call2_call0_v9 : Ref sig .tc := ⟨.hbm, 519, rfl⟩
abbrev main_call0_call2_call0_v10 : Ref sig .tc := ⟨.hbm, 520, rfl⟩
abbrev main_call0_call2_call0_v11 : Ref sig .tc := ⟨.hbm, 521, rfl⟩
abbrev main_call0_call2_call0_v12 : Ref sig .tc := ⟨.hbm, 522, rfl⟩
abbrev main_call0_call2_call0_v13 : Ref sig .tc := ⟨.hbm, 523, rfl⟩
abbrev main_call0_call2_call0_c_2 : Ref sig .tc := ⟨.hbm, 524, rfl⟩
abbrev main_call0_call2_call0_v14 : Ref sig .tc := ⟨.hbm, 525, rfl⟩
abbrev main_call0_call2_call0_v15 : Ref sig .tc := ⟨.hbm, 526, rfl⟩
abbrev main_call0_call2_call0_c_3 : Ref sig .tc := ⟨.hbm, 527, rfl⟩
abbrev main_call0_call2_call0_v16 : Ref sig .tc := ⟨.hbm, 528, rfl⟩
abbrev main_call0_call2_call0_v17 : Ref sig .tc := ⟨.hbm, 529, rfl⟩
abbrev main_call0_call2_call0_v18 : Ref sig .tc := ⟨.hbm, 530, rfl⟩
abbrev main_call0_call2_call0_v19 : Ref sig .tc := ⟨.hbm, 531, rfl⟩
abbrev main_call0_call2_call0_v20 : Ref sig .tc := ⟨.hbm, 532, rfl⟩
abbrev main_call0_call2_call0_c_4 : Ref sig .tc := ⟨.hbm, 533, rfl⟩
abbrev main_call0_call2_call0_v21 : Ref sig .tc := ⟨.hbm, 534, rfl⟩
abbrev main_call0_call2_call0_v22 : Ref sig .tc := ⟨.hbm, 535, rfl⟩
abbrev main_call0_call2_call0_c_5 : Ref sig .tc := ⟨.hbm, 536, rfl⟩
abbrev main_call0_call2_call0_v23 : Ref sig .tc := ⟨.hbm, 537, rfl⟩
abbrev main_call0_call2_call0_v24 : Ref sig .tc := ⟨.hbm, 538, rfl⟩
abbrev main_call0_call2_call0_v25 : Ref sig .tc := ⟨.hbm, 539, rfl⟩
abbrev main_call0_call2_call0_v26 : Ref sig .tc := ⟨.hbm, 540, rfl⟩
abbrev main_call0_call2_call0_v27 : Ref sig .tc := ⟨.hbm, 541, rfl⟩
abbrev main_call0_call2_call0_c_6 : Ref sig .tc := ⟨.hbm, 542, rfl⟩
abbrev main_call0_call2_call0_v28 : Ref sig .tc := ⟨.hbm, 543, rfl⟩
abbrev main_call0_call2_call0_v29 : Ref sig .tc := ⟨.hbm, 544, rfl⟩
abbrev main_call0_call2_call0_c_7 : Ref sig .tc := ⟨.hbm, 545, rfl⟩
abbrev main_call0_call2_call0_v30 : Ref sig .tc := ⟨.hbm, 546, rfl⟩
abbrev main_call0_call2_call0_v31 : Ref sig .tc := ⟨.hbm, 547, rfl⟩
abbrev main_call0_call2_call0_v32 : Ref sig .tc := ⟨.hbm, 548, rfl⟩
abbrev main_call0_call2_call0_v33 : Ref sig .tc := ⟨.hbm, 549, rfl⟩
abbrev main_call0_call2_call0_v34 : Ref sig .tc := ⟨.hbm, 550, rfl⟩
abbrev main_call0_call2_call0_v35 : Ref sig .tc := ⟨.hbm, 551, rfl⟩
abbrev main_call0_call2_call0_v36 : Ref sig .tc := ⟨.hbm, 552, rfl⟩
abbrev main_call0_call2_call0_v37 : Ref sig .tc := ⟨.hbm, 553, rfl⟩
abbrev main_call0_call2_call0_c_8 : Ref sig .tc := ⟨.hbm, 554, rfl⟩
abbrev main_call0_call2_call0_v38 : Ref sig .tc := ⟨.hbm, 555, rfl⟩
abbrev main_call0_call2_call0_v39 : Ref sig .tc := ⟨.hbm, 556, rfl⟩
abbrev main_call0_call2_call0_v40 : Ref sig .tc := ⟨.hbm, 557, rfl⟩
abbrev main_call0_call2_call0_c_9 : Ref sig .tc := ⟨.hbm, 558, rfl⟩
abbrev main_call0_call2_call0_v41 : Ref sig .tc := ⟨.hbm, 559, rfl⟩
abbrev main_call0_call2_call0_v42 : Ref sig .tc := ⟨.hbm, 560, rfl⟩
abbrev main_call0_call2_call0_c_10 : Ref sig .tc := ⟨.hbm, 561, rfl⟩
abbrev main_call0_call2_call0_v43 : Ref sig .tc := ⟨.hbm, 562, rfl⟩
abbrev main_call0_call2_call0_v44 : Ref sig .tc := ⟨.hbm, 563, rfl⟩
abbrev main_call0_call2_call0_v45 : Ref sig .tc := ⟨.hbm, 564, rfl⟩
abbrev main_call0_call2_call0_v46 : Ref sig .tc := ⟨.hbm, 565, rfl⟩
abbrev main_call0_call2_call0_v47 : Ref sig .tc := ⟨.hbm, 566, rfl⟩
abbrev main_call0_call2_call0_c_11 : Ref sig .tc := ⟨.hbm, 567, rfl⟩
abbrev main_call0_call2_call0_v48 : Ref sig .tc := ⟨.hbm, 568, rfl⟩
abbrev main_call0_call2_call0_v49 : Ref sig .tc := ⟨.hbm, 569, rfl⟩
abbrev main_call0_call2_call0_c_12 : Ref sig .tc := ⟨.hbm, 570, rfl⟩
abbrev main_call0_call2_call0_v50 : Ref sig .tc := ⟨.hbm, 571, rfl⟩
abbrev main_call0_call2_call0_v51 : Ref sig .tc := ⟨.hbm, 572, rfl⟩
abbrev main_call0_call2_call0_v52 : Ref sig .tc := ⟨.hbm, 573, rfl⟩
abbrev main_call0_call2_call0_v53 : Ref sig .tc := ⟨.hbm, 574, rfl⟩
abbrev main_call0_call2_call0_v54 : Ref sig .tc := ⟨.hbm, 575, rfl⟩
abbrev main_call0_call2_call0_c_13 : Ref sig .tc := ⟨.hbm, 576, rfl⟩
abbrev main_call0_call2_call0_v55 : Ref sig .tc := ⟨.hbm, 577, rfl⟩
abbrev main_call0_call2_call0_v56 : Ref sig .tc := ⟨.hbm, 578, rfl⟩
abbrev main_call0_call2_call0_c_14 : Ref sig .tc := ⟨.hbm, 579, rfl⟩
abbrev main_call0_call2_call0_v57 : Ref sig .tc := ⟨.hbm, 580, rfl⟩
abbrev main_call0_call2_call0_v58 : Ref sig .tc := ⟨.hbm, 581, rfl⟩
abbrev main_call0_call2_call0_v59 : Ref sig .tc := ⟨.hbm, 582, rfl⟩
abbrev main_call0_call2_call0_v60 : Ref sig .tc := ⟨.hbm, 583, rfl⟩
abbrev main_call0_call2_call0_v61 : Ref sig .tc := ⟨.hbm, 584, rfl⟩
abbrev main_call0_call2_call0_c_15 : Ref sig .tc := ⟨.hbm, 585, rfl⟩
abbrev main_call0_call2_call0_v62 : Ref sig .tc := ⟨.hbm, 586, rfl⟩
abbrev main_call0_call2_call0_v63 : Ref sig .tc := ⟨.hbm, 587, rfl⟩
abbrev main_call0_call2_call0_c_16 : Ref sig .tc := ⟨.hbm, 588, rfl⟩
abbrev main_call0_call2_call0_v64 : Ref sig .tc := ⟨.hbm, 589, rfl⟩
abbrev main_call0_call2_call0_v65 : Ref sig .tc := ⟨.hbm, 590, rfl⟩
abbrev main_call0_call2_call0_v66 : Ref sig .tc := ⟨.hbm, 591, rfl⟩
abbrev main_call0_call2_call0_v67 : Ref sig .tc := ⟨.hbm, 592, rfl⟩
abbrev main_call0_call2_call0_v68 : Ref sig .tc := ⟨.hbm, 593, rfl⟩
abbrev main_call0_call2_call0_v69 : Ref sig .tc := ⟨.hbm, 594, rfl⟩
abbrev main_call0_call2_call0_v70 : Ref sig .tc := ⟨.hbm, 595, rfl⟩
abbrev main_call0_call2_call0_v71 : Ref sig .tc := ⟨.hbm, 596, rfl⟩
abbrev main_call0_call2_call0_c_17 : Ref sig .tc := ⟨.hbm, 597, rfl⟩
abbrev main_call0_call2_call0_v72 : Ref sig .tc := ⟨.hbm, 598, rfl⟩
abbrev main_call0_call2_call0_v73 : Ref sig .tc := ⟨.hbm, 599, rfl⟩
abbrev main_call0_call2_call0_v74 : Ref sig .tc := ⟨.hbm, 600, rfl⟩
abbrev main_call0_call2_call0_c_18 : Ref sig .tc := ⟨.hbm, 601, rfl⟩
abbrev main_call0_call2_call0_v75 : Ref sig .tc := ⟨.hbm, 602, rfl⟩
abbrev main_call0_call2_call0_v76 : Ref sig .tc := ⟨.hbm, 603, rfl⟩
abbrev main_call0_call2_call0_c_19 : Ref sig .tc := ⟨.hbm, 604, rfl⟩
abbrev main_call0_call2_call0_v77 : Ref sig .tc := ⟨.hbm, 605, rfl⟩
abbrev main_call0_call2_call0_v78 : Ref sig .tc := ⟨.hbm, 606, rfl⟩
abbrev main_call0_call2_call0_v79 : Ref sig .tc := ⟨.hbm, 607, rfl⟩
abbrev main_call0_call2_call0_v80 : Ref sig .tc := ⟨.hbm, 608, rfl⟩
abbrev main_call0_call2_call0_v81 : Ref sig .tc := ⟨.hbm, 609, rfl⟩
abbrev main_call0_call2_call0_c_20 : Ref sig .tc := ⟨.hbm, 610, rfl⟩
abbrev main_call0_call2_call0_v82 : Ref sig .tc := ⟨.hbm, 611, rfl⟩
abbrev main_call0_call2_call0_v83 : Ref sig .tc := ⟨.hbm, 612, rfl⟩
abbrev main_call0_call2_call0_c_21 : Ref sig .tc := ⟨.hbm, 613, rfl⟩
abbrev main_call0_call2_call0_v84 : Ref sig .tc := ⟨.hbm, 614, rfl⟩
abbrev main_call0_call2_call0_v85 : Ref sig .tc := ⟨.hbm, 615, rfl⟩
abbrev main_call0_call2_call0_v86 : Ref sig .tc := ⟨.hbm, 616, rfl⟩
abbrev main_call0_call2_call0_v87 : Ref sig .tc := ⟨.hbm, 617, rfl⟩
abbrev main_call0_call2_call0_v88 : Ref sig .tc := ⟨.hbm, 618, rfl⟩
abbrev main_call0_call2_call0_c_22 : Ref sig .tc := ⟨.hbm, 619, rfl⟩
abbrev main_call0_call2_call0_v89 : Ref sig .tc := ⟨.hbm, 620, rfl⟩
abbrev main_call0_call2_call0_v90 : Ref sig .tc := ⟨.hbm, 621, rfl⟩
abbrev main_call0_call2_call0_c_23 : Ref sig .tc := ⟨.hbm, 622, rfl⟩
abbrev main_call0_call2_call0_v91 : Ref sig .tc := ⟨.hbm, 623, rfl⟩
abbrev main_call0_call2_call0_v92 : Ref sig .tc := ⟨.hbm, 624, rfl⟩
abbrev main_call0_call2_call0_v93 : Ref sig .tc := ⟨.hbm, 625, rfl⟩
abbrev main_call0_call2_call0_v94 : Ref sig .tc := ⟨.hbm, 626, rfl⟩
abbrev main_call0_call2_call0_v95 : Ref sig .tc := ⟨.hbm, 627, rfl⟩
abbrev main_call0_call2_call0_c_24 : Ref sig .tc := ⟨.hbm, 628, rfl⟩
abbrev main_call0_call2_call0_v96 : Ref sig .tc := ⟨.hbm, 629, rfl⟩
abbrev main_call0_call2_call0_v97 : Ref sig .tc := ⟨.hbm, 630, rfl⟩
abbrev main_call0_call2_call0_c_25 : Ref sig .tc := ⟨.hbm, 631, rfl⟩
abbrev main_call0_call2_call0_v98 : Ref sig .tc := ⟨.hbm, 632, rfl⟩
abbrev main_call0_call2_call0_v99 : Ref sig .tc := ⟨.hbm, 633, rfl⟩
abbrev main_call0_call2_call0_v100 : Ref sig .tc := ⟨.hbm, 634, rfl⟩
abbrev main_call0_call2_call0_v101 : Ref sig .tc := ⟨.hbm, 635, rfl⟩
abbrev main_call0_call2_call0_v102 : Ref sig .tc := ⟨.hbm, 636, rfl⟩
abbrev main_call0_call2_call0_v103 : Ref sig .tc := ⟨.hbm, 637, rfl⟩
abbrev main_call0_call2_call0_v104 : Ref sig .tc := ⟨.hbm, 638, rfl⟩
abbrev main_call0_call2_call0_v105 : Ref sig .tc := ⟨.hbm, 639, rfl⟩
abbrev main_call0_call2_call0_c_26 : Ref sig .tc := ⟨.hbm, 640, rfl⟩
abbrev main_call0_call2_call0_v106 : Ref sig .tc := ⟨.hbm, 641, rfl⟩
abbrev main_call0_call2_call0_v107 : Ref sig .tc := ⟨.hbm, 642, rfl⟩
abbrev main_call0_call2_call0_v108 : Ref sig .tc := ⟨.hbm, 643, rfl⟩
abbrev main_call0_call2_call0_c_27 : Ref sig .tc := ⟨.hbm, 644, rfl⟩
abbrev main_call0_call2_call0_v109 : Ref sig .tc := ⟨.hbm, 645, rfl⟩
abbrev main_call0_call2_call0_v110 : Ref sig .tc := ⟨.hbm, 646, rfl⟩
abbrev main_call0_call2_call0_c_28 : Ref sig .tc := ⟨.hbm, 647, rfl⟩
abbrev main_call0_call2_call0_v111 : Ref sig .tc := ⟨.hbm, 648, rfl⟩
abbrev main_call0_call2_call0_v112 : Ref sig .tc := ⟨.hbm, 649, rfl⟩
abbrev main_call0_call2_call0_v113 : Ref sig .tc := ⟨.hbm, 650, rfl⟩
abbrev main_call0_call2_call0_v114 : Ref sig .tc := ⟨.hbm, 651, rfl⟩
abbrev main_call0_call2_call0_v115 : Ref sig .tc := ⟨.hbm, 652, rfl⟩
abbrev main_call0_call2_call0_c_29 : Ref sig .tc := ⟨.hbm, 653, rfl⟩
abbrev main_call0_call2_call0_v116 : Ref sig .tc := ⟨.hbm, 654, rfl⟩
abbrev main_call0_call2_call0_v117 : Ref sig .tc := ⟨.hbm, 655, rfl⟩
abbrev main_call0_call2_call0_c_30 : Ref sig .tc := ⟨.hbm, 656, rfl⟩
abbrev main_call0_call2_call0_v118 : Ref sig .tc := ⟨.hbm, 657, rfl⟩
abbrev main_call0_call2_call0_v119 : Ref sig .tc := ⟨.hbm, 658, rfl⟩
abbrev main_call0_call2_call0_v120 : Ref sig .tc := ⟨.hbm, 659, rfl⟩
abbrev main_call0_call2_call0_v121 : Ref sig .tc := ⟨.hbm, 660, rfl⟩
abbrev main_call0_call2_call0_v122 : Ref sig .tc := ⟨.hbm, 661, rfl⟩
abbrev main_call0_call2_call0_c_31 : Ref sig .tc := ⟨.hbm, 662, rfl⟩
abbrev main_call0_call2_call0_v123 : Ref sig .tc := ⟨.hbm, 663, rfl⟩
abbrev main_call0_call2_call0_v124 : Ref sig .tc := ⟨.hbm, 664, rfl⟩
abbrev main_call0_call2_call0_c_32 : Ref sig .tc := ⟨.hbm, 665, rfl⟩
abbrev main_call0_call2_call0_v125 : Ref sig .tc := ⟨.hbm, 666, rfl⟩
abbrev main_call0_call2_call0_v126 : Ref sig .tc := ⟨.hbm, 667, rfl⟩
abbrev main_call0_call2_call0_v127 : Ref sig .tc := ⟨.hbm, 668, rfl⟩
abbrev main_call0_call2_call0_v128 : Ref sig .tc := ⟨.hbm, 669, rfl⟩
abbrev main_call0_call2_call0_v129 : Ref sig .tc := ⟨.hbm, 670, rfl⟩
abbrev main_call0_call2_call0_c_33 : Ref sig .tc := ⟨.hbm, 671, rfl⟩
abbrev main_call0_call2_call0_v130 : Ref sig .tc := ⟨.hbm, 672, rfl⟩
abbrev main_call0_call2_call0_v131 : Ref sig .tc := ⟨.hbm, 673, rfl⟩
abbrev main_call0_call2_call0_c_34 : Ref sig .tc := ⟨.hbm, 674, rfl⟩
abbrev main_call0_call2_call0_v132 : Ref sig .tc := ⟨.hbm, 675, rfl⟩
abbrev main_call0_call2_call0_v133 : Ref sig .tc := ⟨.hbm, 676, rfl⟩
abbrev main_call0_call2_call0_v134 : Ref sig .tc := ⟨.hbm, 677, rfl⟩
abbrev main_call0_call2_call0_v135 : Ref sig .tc := ⟨.hbm, 678, rfl⟩
abbrev main_call0_call2_call0_v136 : Ref sig .tc := ⟨.hbm, 679, rfl⟩
abbrev main_call0_call2_call0_v137 : Ref sig .tc := ⟨.hbm, 680, rfl⟩
abbrev main_call0_call2_call0_v138 : Ref sig .tc := ⟨.hbm, 681, rfl⟩
abbrev main_call0_call2_call0_v139 : Ref sig .tc := ⟨.hbm, 682, rfl⟩
abbrev main_call0_call2_call0_c_35 : Ref sig .tc := ⟨.hbm, 683, rfl⟩
abbrev main_call0_call2_call0_v140 : Ref sig .tc := ⟨.hbm, 684, rfl⟩
abbrev main_call0_call2_call0_v141 : Ref sig .tc := ⟨.hbm, 685, rfl⟩
abbrev main_call0_call2_call0_v142 : Ref sig .tc := ⟨.hbm, 686, rfl⟩
abbrev main_call0_call2_call0_c_36 : Ref sig .tc := ⟨.hbm, 687, rfl⟩
abbrev main_call0_call2_call0_v143 : Ref sig .tc := ⟨.hbm, 688, rfl⟩
abbrev main_call0_call2_call0_v144 : Ref sig .tc := ⟨.hbm, 689, rfl⟩
abbrev main_call0_call2_call0_c_37 : Ref sig .tc := ⟨.hbm, 690, rfl⟩
abbrev main_call0_call2_call0_v145 : Ref sig .tc := ⟨.hbm, 691, rfl⟩
abbrev main_call0_call2_call0_v146 : Ref sig .tc := ⟨.hbm, 692, rfl⟩
abbrev main_call0_call2_call0_v147 : Ref sig .tc := ⟨.hbm, 693, rfl⟩
abbrev main_call0_call2_call0_v148 : Ref sig .tc := ⟨.hbm, 694, rfl⟩
abbrev main_call0_call2_call0_v149 : Ref sig .tc := ⟨.hbm, 695, rfl⟩
abbrev main_call0_call2_call0_c_38 : Ref sig .tc := ⟨.hbm, 696, rfl⟩
abbrev main_call0_call2_call0_v150 : Ref sig .tc := ⟨.hbm, 697, rfl⟩
abbrev main_call0_call2_call0_v151 : Ref sig .tc := ⟨.hbm, 698, rfl⟩
abbrev main_call0_call2_call0_c_39 : Ref sig .tc := ⟨.hbm, 699, rfl⟩
abbrev main_call0_call2_call0_v152 : Ref sig .tc := ⟨.hbm, 700, rfl⟩
abbrev main_call0_call2_call0_v153 : Ref sig .tc := ⟨.hbm, 701, rfl⟩
abbrev main_call0_call2_call0_v154 : Ref sig .tc := ⟨.hbm, 702, rfl⟩
abbrev main_call0_call2_call0_v155 : Ref sig .tc := ⟨.hbm, 703, rfl⟩
abbrev main_call0_call2_call0_v156 : Ref sig .tc := ⟨.hbm, 704, rfl⟩
abbrev main_call0_call2_call0_c_40 : Ref sig .tc := ⟨.hbm, 705, rfl⟩
abbrev main_call0_call2_call0_v157 : Ref sig .tc := ⟨.hbm, 706, rfl⟩
abbrev main_call0_call2_call0_v158 : Ref sig .tc := ⟨.hbm, 707, rfl⟩
abbrev main_call0_call2_call0_c_41 : Ref sig .tc := ⟨.hbm, 708, rfl⟩
abbrev main_call0_call2_call0_v159 : Ref sig .tc := ⟨.hbm, 709, rfl⟩
abbrev main_call0_call2_call0_v160 : Ref sig .tc := ⟨.hbm, 710, rfl⟩
abbrev main_call0_call2_call0_v161 : Ref sig .tc := ⟨.hbm, 711, rfl⟩
abbrev main_call0_call2_call0_v162 : Ref sig .tc := ⟨.hbm, 712, rfl⟩
abbrev main_call0_call2_call0_v163 : Ref sig .tc := ⟨.hbm, 713, rfl⟩
abbrev main_call0_call2_call0_c_42 : Ref sig .tc := ⟨.hbm, 714, rfl⟩
abbrev main_call0_call2_call0_v164 : Ref sig .tc := ⟨.hbm, 715, rfl⟩
abbrev main_call0_call2_call0_v165 : Ref sig .tc := ⟨.hbm, 716, rfl⟩
abbrev main_call0_call2_call0_c_43 : Ref sig .tc := ⟨.hbm, 717, rfl⟩
abbrev main_call0_call2_call0_v166 : Ref sig .tc := ⟨.hbm, 718, rfl⟩
abbrev main_call0_call2_call0_v167 : Ref sig .tc := ⟨.hbm, 719, rfl⟩
abbrev main_call0_call2_call0_v168 : Ref sig .tc := ⟨.hbm, 720, rfl⟩
abbrev main_call0_call2_call0_v169 : Ref sig .tc := ⟨.hbm, 721, rfl⟩
abbrev main_call0_call2_call0_v170 : Ref sig .tc := ⟨.hbm, 722, rfl⟩
abbrev main_call0_call2_v11_0 : Ref sig .tc := ⟨.hbm, 723, rfl⟩
abbrev main_call0_call2_call0_v172 : Ref sig .tc := ⟨.hbm, 724, rfl⟩
abbrev main_call0_call2_call0_v173 : Ref sig .tc := ⟨.hbm, 725, rfl⟩
abbrev main_call0_call2_call0_c_44 : Ref sig .tc := ⟨.hbm, 726, rfl⟩
abbrev main_call0_call2_call0_v174 : Ref sig .tc := ⟨.hbm, 727, rfl⟩
abbrev main_call0_call2_v11_1 : Ref sig .tc := ⟨.hbm, 728, rfl⟩
abbrev main_call0_call2_v12 : Ref sig .tc := ⟨.hbm, 729, rfl⟩
abbrev main_call0_call2_v13 : Ref sig .tc := ⟨.hbm, 730, rfl⟩
abbrev main_call0_v19 : Ref sig .tc := ⟨.hbm, 731, rfl⟩
abbrev main_call0_v20 : Ref sig .tc := ⟨.hbm, 732, rfl⟩
abbrev main_call0_v21 : Ref sig .tc := ⟨.hbm, 733, rfl⟩
abbrev main_call0_v22 : Ref sig .tc := ⟨.hbm, 734, rfl⟩
abbrev main_call0_v23 : Ref sig .tc := ⟨.hbm, 735, rfl⟩
abbrev main_call0_v24 : Ref sig .tc := ⟨.hbm, 736, rfl⟩
abbrev main_call0_v25 : Ref sig .tc := ⟨.hbm, 737, rfl⟩
abbrev main_call0_v26 : Ref sig .tc := ⟨.hbm, 738, rfl⟩
abbrev main_call0_v27 : Ref sig .tc := ⟨.hbm, 739, rfl⟩
abbrev main_call0_v28 : Ref sig .tc := ⟨.hbm, 740, rfl⟩
abbrev main_call0_c_1 : Ref sig .tc := ⟨.hbm, 741, rfl⟩
abbrev main_call0_v29 : Ref sig .tc := ⟨.hbm, 742, rfl⟩
abbrev main_call0_v30 : Ref sig .tc := ⟨.hbm, 743, rfl⟩
abbrev main_call0_c_2 : Ref sig .tc := ⟨.hbm, 744, rfl⟩
abbrev main_call0_v31 : Ref sig .tc := ⟨.hbm, 745, rfl⟩
abbrev main_call0_v32 : Ref sig .tc := ⟨.hbm, 746, rfl⟩
abbrev main_call0_v33 : Ref sig .tc := ⟨.hbm, 747, rfl⟩
abbrev main_call0_v34 : Ref sig .tc := ⟨.hbm, 748, rfl⟩
abbrev main_call0_call3_v0 : Ref sig .tc := ⟨.hbm, 749, rfl⟩
abbrev main_call0_call3_c : Ref sig .tc := ⟨.hbm, 750, rfl⟩
abbrev main_call0_call3_v1 : Ref sig .tc := ⟨.hbm, 751, rfl⟩
abbrev main_call0_call3_v2 : Ref sig .tc := ⟨.hbm, 752, rfl⟩
abbrev main_call0_call3_v3 : Ref sig .tc := ⟨.hbm, 753, rfl⟩
abbrev main_call0_call3_v4 : Ref sig .tc := ⟨.hbm, 754, rfl⟩
abbrev main_call0_call3_v5 : Ref sig .tc := ⟨.hbm, 755, rfl⟩
abbrev main_call0_call3_v6 : Ref sig .tc := ⟨.hbm, 756, rfl⟩
abbrev main_call0_call3_c_0 : Ref sig .tc := ⟨.hbm, 757, rfl⟩
abbrev main_call0_call3_v7 : Ref sig .tc := ⟨.hbm, 758, rfl⟩
abbrev main_call0_call3_v8 : Ref sig .tc := ⟨.hbm, 759, rfl⟩
abbrev main_call0_call3_c_1 : Ref sig .tc := ⟨.hbm, 760, rfl⟩
abbrev main_call0_call3_v9 : Ref sig .tc := ⟨.hbm, 761, rfl⟩
abbrev main_call0_call3_v10 : Ref sig .tc := ⟨.hbm, 762, rfl⟩
abbrev main_call0_call3_v11 : Ref sig .tc := ⟨.hbm, 763, rfl⟩
abbrev main_call0_call3_v12 : Ref sig .tc := ⟨.hbm, 764, rfl⟩
abbrev main_call0_call3_v13 : Ref sig .tc := ⟨.hbm, 765, rfl⟩
abbrev main_call0_call3_c_2 : Ref sig .tc := ⟨.hbm, 766, rfl⟩
abbrev main_call0_call3_v14 : Ref sig .tc := ⟨.hbm, 767, rfl⟩
abbrev main_call0_call3_v15 : Ref sig .tc := ⟨.hbm, 768, rfl⟩
abbrev main_call0_call3_c_3 : Ref sig .tc := ⟨.hbm, 769, rfl⟩
abbrev main_call0_call3_v16 : Ref sig .tc := ⟨.hbm, 770, rfl⟩
abbrev main_call0_call3_v17 : Ref sig .tc := ⟨.hbm, 771, rfl⟩
abbrev main_call0_call3_v18 : Ref sig .tc := ⟨.hbm, 772, rfl⟩
abbrev main_call0_call3_v19 : Ref sig .tc := ⟨.hbm, 773, rfl⟩
abbrev main_call0_call3_v20 : Ref sig .tc := ⟨.hbm, 774, rfl⟩
abbrev main_call0_call3_c_4 : Ref sig .tc := ⟨.hbm, 775, rfl⟩
abbrev main_call0_call3_v21 : Ref sig .tc := ⟨.hbm, 776, rfl⟩
abbrev main_call0_call3_v22 : Ref sig .tc := ⟨.hbm, 777, rfl⟩
abbrev main_call0_call3_c_5 : Ref sig .tc := ⟨.hbm, 778, rfl⟩
abbrev main_call0_call3_v23 : Ref sig .tc := ⟨.hbm, 779, rfl⟩
abbrev main_call0_call3_v24 : Ref sig .tc := ⟨.hbm, 780, rfl⟩
abbrev main_call0_call3_v25 : Ref sig .tc := ⟨.hbm, 781, rfl⟩
abbrev main_call0_call3_v26 : Ref sig .tc := ⟨.hbm, 782, rfl⟩
abbrev main_call0_call3_v27 : Ref sig .tc := ⟨.hbm, 783, rfl⟩
abbrev main_call0_call3_c_6 : Ref sig .tc := ⟨.hbm, 784, rfl⟩
abbrev main_call0_call3_v28 : Ref sig .tc := ⟨.hbm, 785, rfl⟩
abbrev main_call0_call3_v29 : Ref sig .tc := ⟨.hbm, 786, rfl⟩
abbrev main_call0_call3_c_7 : Ref sig .tc := ⟨.hbm, 787, rfl⟩
abbrev main_call0_call3_v30 : Ref sig .tc := ⟨.hbm, 788, rfl⟩
abbrev main_call0_call3_v31 : Ref sig .tc := ⟨.hbm, 789, rfl⟩
abbrev main_call0_call3_v32 : Ref sig .tc := ⟨.hbm, 790, rfl⟩
abbrev main_call0_call3_v33 : Ref sig .tc := ⟨.hbm, 791, rfl⟩
abbrev main_call0_call3_v34 : Ref sig .tc := ⟨.hbm, 792, rfl⟩
abbrev main_call0_call3_v35 : Ref sig .tc := ⟨.hbm, 793, rfl⟩
abbrev main_call0_call3_v36 : Ref sig .tc := ⟨.hbm, 794, rfl⟩
abbrev main_call0_call3_v37 : Ref sig .tc := ⟨.hbm, 795, rfl⟩
abbrev main_call0_call3_c_8 : Ref sig .tc := ⟨.hbm, 796, rfl⟩
abbrev main_call0_call3_v38 : Ref sig .tc := ⟨.hbm, 797, rfl⟩
abbrev main_call0_call3_v39 : Ref sig .tc := ⟨.hbm, 798, rfl⟩
abbrev main_call0_call3_v40 : Ref sig .tc := ⟨.hbm, 799, rfl⟩
abbrev main_call0_call3_c_9 : Ref sig .tc := ⟨.hbm, 800, rfl⟩
abbrev main_call0_call3_v41 : Ref sig .tc := ⟨.hbm, 801, rfl⟩
abbrev main_call0_call3_v42 : Ref sig .tc := ⟨.hbm, 802, rfl⟩
abbrev main_call0_call3_c_10 : Ref sig .tc := ⟨.hbm, 803, rfl⟩
abbrev main_call0_call3_v43 : Ref sig .tc := ⟨.hbm, 804, rfl⟩
abbrev main_call0_call3_v44 : Ref sig .tc := ⟨.hbm, 805, rfl⟩
abbrev main_call0_call3_v45 : Ref sig .tc := ⟨.hbm, 806, rfl⟩
abbrev main_call0_call3_v46 : Ref sig .tc := ⟨.hbm, 807, rfl⟩
abbrev main_call0_call3_v47 : Ref sig .tc := ⟨.hbm, 808, rfl⟩
abbrev main_call0_call3_c_11 : Ref sig .tc := ⟨.hbm, 809, rfl⟩
abbrev main_call0_call3_v48 : Ref sig .tc := ⟨.hbm, 810, rfl⟩
abbrev main_call0_call3_v49 : Ref sig .tc := ⟨.hbm, 811, rfl⟩
abbrev main_call0_call3_c_12 : Ref sig .tc := ⟨.hbm, 812, rfl⟩
abbrev main_call0_call3_v50 : Ref sig .tc := ⟨.hbm, 813, rfl⟩
abbrev main_call0_call3_v51 : Ref sig .tc := ⟨.hbm, 814, rfl⟩
abbrev main_call0_call3_v52 : Ref sig .tc := ⟨.hbm, 815, rfl⟩
abbrev main_call0_call3_v53 : Ref sig .tc := ⟨.hbm, 816, rfl⟩
abbrev main_call0_call3_v54 : Ref sig .tc := ⟨.hbm, 817, rfl⟩
abbrev main_call0_call3_c_13 : Ref sig .tc := ⟨.hbm, 818, rfl⟩
abbrev main_call0_call3_v55 : Ref sig .tc := ⟨.hbm, 819, rfl⟩
abbrev main_call0_call3_v56 : Ref sig .tc := ⟨.hbm, 820, rfl⟩
abbrev main_call0_call3_c_14 : Ref sig .tc := ⟨.hbm, 821, rfl⟩
abbrev main_call0_call3_v57 : Ref sig .tc := ⟨.hbm, 822, rfl⟩
abbrev main_call0_call3_v58 : Ref sig .tc := ⟨.hbm, 823, rfl⟩
abbrev main_call0_call3_v59 : Ref sig .tc := ⟨.hbm, 824, rfl⟩
abbrev main_call0_call3_v60 : Ref sig .tc := ⟨.hbm, 825, rfl⟩
abbrev main_call0_call3_v61 : Ref sig .tc := ⟨.hbm, 826, rfl⟩
abbrev main_call0_call3_c_15 : Ref sig .tc := ⟨.hbm, 827, rfl⟩
abbrev main_call0_call3_v62 : Ref sig .tc := ⟨.hbm, 828, rfl⟩
abbrev main_call0_call3_v63 : Ref sig .tc := ⟨.hbm, 829, rfl⟩
abbrev main_call0_call3_c_16 : Ref sig .tc := ⟨.hbm, 830, rfl⟩
abbrev main_call0_call3_v64 : Ref sig .tc := ⟨.hbm, 831, rfl⟩
abbrev main_call0_call3_v65 : Ref sig .tc := ⟨.hbm, 832, rfl⟩
abbrev main_call0_call3_v66 : Ref sig .tc := ⟨.hbm, 833, rfl⟩
abbrev main_call0_call3_v67 : Ref sig .tc := ⟨.hbm, 834, rfl⟩
abbrev main_call0_call3_v68 : Ref sig .tc := ⟨.hbm, 835, rfl⟩
abbrev main_call0_call3_v69 : Ref sig .tc := ⟨.hbm, 836, rfl⟩
abbrev main_call0_call3_v70 : Ref sig .tc := ⟨.hbm, 837, rfl⟩
abbrev main_call0_call3_v71 : Ref sig .tc := ⟨.hbm, 838, rfl⟩
abbrev main_call0_call3_c_17 : Ref sig .tc := ⟨.hbm, 839, rfl⟩
abbrev main_call0_call3_v72 : Ref sig .tc := ⟨.hbm, 840, rfl⟩
abbrev main_call0_call3_v73 : Ref sig .tc := ⟨.hbm, 841, rfl⟩
abbrev main_call0_call3_v74 : Ref sig .tc := ⟨.hbm, 842, rfl⟩
abbrev main_call0_call3_c_18 : Ref sig .tc := ⟨.hbm, 843, rfl⟩
abbrev main_call0_call3_v75 : Ref sig .tc := ⟨.hbm, 844, rfl⟩
abbrev main_call0_call3_v76 : Ref sig .tc := ⟨.hbm, 845, rfl⟩
abbrev main_call0_call3_c_19 : Ref sig .tc := ⟨.hbm, 846, rfl⟩
abbrev main_call0_call3_v77 : Ref sig .tc := ⟨.hbm, 847, rfl⟩
abbrev main_call0_call3_v78 : Ref sig .tc := ⟨.hbm, 848, rfl⟩
abbrev main_call0_call3_v79 : Ref sig .tc := ⟨.hbm, 849, rfl⟩
abbrev main_call0_call3_v80 : Ref sig .tc := ⟨.hbm, 850, rfl⟩
abbrev main_call0_call3_v81 : Ref sig .tc := ⟨.hbm, 851, rfl⟩
abbrev main_call0_call3_c_20 : Ref sig .tc := ⟨.hbm, 852, rfl⟩
abbrev main_call0_call3_v82 : Ref sig .tc := ⟨.hbm, 853, rfl⟩
abbrev main_call0_call3_v83 : Ref sig .tc := ⟨.hbm, 854, rfl⟩
abbrev main_call0_call3_c_21 : Ref sig .tc := ⟨.hbm, 855, rfl⟩
abbrev main_call0_call3_v84 : Ref sig .tc := ⟨.hbm, 856, rfl⟩
abbrev main_call0_call3_v85 : Ref sig .tc := ⟨.hbm, 857, rfl⟩
abbrev main_call0_call3_v86 : Ref sig .tc := ⟨.hbm, 858, rfl⟩
abbrev main_call0_call3_v87 : Ref sig .tc := ⟨.hbm, 859, rfl⟩
abbrev main_call0_call3_v88 : Ref sig .tc := ⟨.hbm, 860, rfl⟩
abbrev main_call0_call3_c_22 : Ref sig .tc := ⟨.hbm, 861, rfl⟩
abbrev main_call0_call3_v89 : Ref sig .tc := ⟨.hbm, 862, rfl⟩
abbrev main_call0_call3_v90 : Ref sig .tc := ⟨.hbm, 863, rfl⟩
abbrev main_call0_call3_c_23 : Ref sig .tc := ⟨.hbm, 864, rfl⟩
abbrev main_call0_call3_v91 : Ref sig .tc := ⟨.hbm, 865, rfl⟩
abbrev main_call0_call3_v92 : Ref sig .tc := ⟨.hbm, 866, rfl⟩
abbrev main_call0_call3_v93 : Ref sig .tc := ⟨.hbm, 867, rfl⟩
abbrev main_call0_call3_v94 : Ref sig .tc := ⟨.hbm, 868, rfl⟩
abbrev main_call0_call3_v95 : Ref sig .tc := ⟨.hbm, 869, rfl⟩
abbrev main_call0_call3_c_24 : Ref sig .tc := ⟨.hbm, 870, rfl⟩
abbrev main_call0_call3_v96 : Ref sig .tc := ⟨.hbm, 871, rfl⟩
abbrev main_call0_call3_v97 : Ref sig .tc := ⟨.hbm, 872, rfl⟩
abbrev main_call0_call3_c_25 : Ref sig .tc := ⟨.hbm, 873, rfl⟩
abbrev main_call0_call3_v98 : Ref sig .tc := ⟨.hbm, 874, rfl⟩
abbrev main_call0_call3_v99 : Ref sig .tc := ⟨.hbm, 875, rfl⟩
abbrev main_call0_call3_v100 : Ref sig .tc := ⟨.hbm, 876, rfl⟩
abbrev main_call0_call3_v101 : Ref sig .tc := ⟨.hbm, 877, rfl⟩
abbrev main_call0_call3_v102 : Ref sig .tc := ⟨.hbm, 878, rfl⟩
abbrev main_call0_call3_v103 : Ref sig .tc := ⟨.hbm, 879, rfl⟩
abbrev main_call0_call3_v104 : Ref sig .tc := ⟨.hbm, 880, rfl⟩
abbrev main_call0_call3_v105 : Ref sig .tc := ⟨.hbm, 881, rfl⟩
abbrev main_call0_call3_c_26 : Ref sig .tc := ⟨.hbm, 882, rfl⟩
abbrev main_call0_call3_v106 : Ref sig .tc := ⟨.hbm, 883, rfl⟩
abbrev main_call0_call3_v107 : Ref sig .tc := ⟨.hbm, 884, rfl⟩
abbrev main_call0_call3_v108 : Ref sig .tc := ⟨.hbm, 885, rfl⟩
abbrev main_call0_call3_c_27 : Ref sig .tc := ⟨.hbm, 886, rfl⟩
abbrev main_call0_call3_v109 : Ref sig .tc := ⟨.hbm, 887, rfl⟩
abbrev main_call0_call3_v110 : Ref sig .tc := ⟨.hbm, 888, rfl⟩
abbrev main_call0_call3_c_28 : Ref sig .tc := ⟨.hbm, 889, rfl⟩
abbrev main_call0_call3_v111 : Ref sig .tc := ⟨.hbm, 890, rfl⟩
abbrev main_call0_call3_v112 : Ref sig .tc := ⟨.hbm, 891, rfl⟩
abbrev main_call0_call3_v113 : Ref sig .tc := ⟨.hbm, 892, rfl⟩
abbrev main_call0_call3_v114 : Ref sig .tc := ⟨.hbm, 893, rfl⟩
abbrev main_call0_call3_v115 : Ref sig .tc := ⟨.hbm, 894, rfl⟩
abbrev main_call0_call3_c_29 : Ref sig .tc := ⟨.hbm, 895, rfl⟩
abbrev main_call0_call3_v116 : Ref sig .tc := ⟨.hbm, 896, rfl⟩
abbrev main_call0_call3_v117 : Ref sig .tc := ⟨.hbm, 897, rfl⟩
abbrev main_call0_call3_c_30 : Ref sig .tc := ⟨.hbm, 898, rfl⟩
abbrev main_call0_call3_v118 : Ref sig .tc := ⟨.hbm, 899, rfl⟩
abbrev main_call0_call3_v119 : Ref sig .tc := ⟨.hbm, 900, rfl⟩
abbrev main_call0_call3_v120 : Ref sig .tc := ⟨.hbm, 901, rfl⟩
abbrev main_call0_call3_v121 : Ref sig .tc := ⟨.hbm, 902, rfl⟩
abbrev main_call0_call3_v122 : Ref sig .tc := ⟨.hbm, 903, rfl⟩
abbrev main_call0_call3_c_31 : Ref sig .tc := ⟨.hbm, 904, rfl⟩
abbrev main_call0_call3_v123 : Ref sig .tc := ⟨.hbm, 905, rfl⟩
abbrev main_call0_call3_v124 : Ref sig .tc := ⟨.hbm, 906, rfl⟩
abbrev main_call0_call3_c_32 : Ref sig .tc := ⟨.hbm, 907, rfl⟩
abbrev main_call0_call3_v125 : Ref sig .tc := ⟨.hbm, 908, rfl⟩
abbrev main_call0_call3_v126 : Ref sig .tc := ⟨.hbm, 909, rfl⟩
abbrev main_call0_call3_v127 : Ref sig .tc := ⟨.hbm, 910, rfl⟩
abbrev main_call0_call3_v128 : Ref sig .tc := ⟨.hbm, 911, rfl⟩
abbrev main_call0_call3_v129 : Ref sig .tc := ⟨.hbm, 912, rfl⟩
abbrev main_call0_call3_c_33 : Ref sig .tc := ⟨.hbm, 913, rfl⟩
abbrev main_call0_call3_v130 : Ref sig .tc := ⟨.hbm, 914, rfl⟩
abbrev main_call0_call3_v131 : Ref sig .tc := ⟨.hbm, 915, rfl⟩
abbrev main_call0_call3_c_34 : Ref sig .tc := ⟨.hbm, 916, rfl⟩
abbrev main_call0_call3_v132 : Ref sig .tc := ⟨.hbm, 917, rfl⟩
abbrev main_call0_call3_v133 : Ref sig .tc := ⟨.hbm, 918, rfl⟩
abbrev main_call0_call3_v134 : Ref sig .tc := ⟨.hbm, 919, rfl⟩
abbrev main_call0_call3_v135 : Ref sig .tc := ⟨.hbm, 920, rfl⟩
abbrev main_call0_call3_v136 : Ref sig .tc := ⟨.hbm, 921, rfl⟩
abbrev main_call0_call3_v137 : Ref sig .tc := ⟨.hbm, 922, rfl⟩
abbrev main_call0_call3_v138 : Ref sig .tc := ⟨.hbm, 923, rfl⟩
abbrev main_call0_call3_v139 : Ref sig .tc := ⟨.hbm, 924, rfl⟩
abbrev main_call0_call3_c_35 : Ref sig .tc := ⟨.hbm, 925, rfl⟩
abbrev main_call0_call3_v140 : Ref sig .tc := ⟨.hbm, 926, rfl⟩
abbrev main_call0_call3_v141 : Ref sig .tc := ⟨.hbm, 927, rfl⟩
abbrev main_call0_call3_v142 : Ref sig .tc := ⟨.hbm, 928, rfl⟩
abbrev main_call0_call3_c_36 : Ref sig .tc := ⟨.hbm, 929, rfl⟩
abbrev main_call0_call3_v143 : Ref sig .tc := ⟨.hbm, 930, rfl⟩
abbrev main_call0_call3_v144 : Ref sig .tc := ⟨.hbm, 931, rfl⟩
abbrev main_call0_call3_c_37 : Ref sig .tc := ⟨.hbm, 932, rfl⟩
abbrev main_call0_call3_v145 : Ref sig .tc := ⟨.hbm, 933, rfl⟩
abbrev main_call0_call3_v146 : Ref sig .tc := ⟨.hbm, 934, rfl⟩
abbrev main_call0_call3_v147 : Ref sig .tc := ⟨.hbm, 935, rfl⟩
abbrev main_call0_call3_v148 : Ref sig .tc := ⟨.hbm, 936, rfl⟩
abbrev main_call0_call3_v149 : Ref sig .tc := ⟨.hbm, 937, rfl⟩
abbrev main_call0_call3_c_38 : Ref sig .tc := ⟨.hbm, 938, rfl⟩
abbrev main_call0_call3_v150 : Ref sig .tc := ⟨.hbm, 939, rfl⟩
abbrev main_call0_call3_v151 : Ref sig .tc := ⟨.hbm, 940, rfl⟩
abbrev main_call0_call3_c_39 : Ref sig .tc := ⟨.hbm, 941, rfl⟩
abbrev main_call0_call3_v152 : Ref sig .tc := ⟨.hbm, 942, rfl⟩
abbrev main_call0_call3_v153 : Ref sig .tc := ⟨.hbm, 943, rfl⟩
abbrev main_call0_call3_v154 : Ref sig .tc := ⟨.hbm, 944, rfl⟩
abbrev main_call0_call3_v155 : Ref sig .tc := ⟨.hbm, 945, rfl⟩
abbrev main_call0_call3_v156 : Ref sig .tc := ⟨.hbm, 946, rfl⟩
abbrev main_call0_call3_c_40 : Ref sig .tc := ⟨.hbm, 947, rfl⟩
abbrev main_call0_call3_v157 : Ref sig .tc := ⟨.hbm, 948, rfl⟩
abbrev main_call0_call3_v158 : Ref sig .tc := ⟨.hbm, 949, rfl⟩
abbrev main_call0_call3_c_41 : Ref sig .tc := ⟨.hbm, 950, rfl⟩
abbrev main_call0_call3_v159 : Ref sig .tc := ⟨.hbm, 951, rfl⟩
abbrev main_call0_call3_v160 : Ref sig .tc := ⟨.hbm, 952, rfl⟩
abbrev main_call0_call3_v161 : Ref sig .tc := ⟨.hbm, 953, rfl⟩
abbrev main_call0_call3_v162 : Ref sig .tc := ⟨.hbm, 954, rfl⟩
abbrev main_call0_call3_v163 : Ref sig .tc := ⟨.hbm, 955, rfl⟩
abbrev main_call0_call3_c_42 : Ref sig .tc := ⟨.hbm, 956, rfl⟩
abbrev main_call0_call3_v164 : Ref sig .tc := ⟨.hbm, 957, rfl⟩
abbrev main_call0_call3_v165 : Ref sig .tc := ⟨.hbm, 958, rfl⟩
abbrev main_call0_call3_c_43 : Ref sig .tc := ⟨.hbm, 959, rfl⟩
abbrev main_call0_call3_v166 : Ref sig .tc := ⟨.hbm, 960, rfl⟩
abbrev main_call0_call3_v167 : Ref sig .tc := ⟨.hbm, 961, rfl⟩
abbrev main_call0_call3_v168 : Ref sig .tc := ⟨.hbm, 962, rfl⟩
abbrev main_call0_call3_v169 : Ref sig .tc := ⟨.hbm, 963, rfl⟩
abbrev main_call0_call3_v170 : Ref sig .tc := ⟨.hbm, 964, rfl⟩
abbrev main_call0_v35_0 : Ref sig .tc := ⟨.hbm, 965, rfl⟩
abbrev main_call0_call3_v172 : Ref sig .tc := ⟨.hbm, 966, rfl⟩
abbrev main_call0_call3_v173 : Ref sig .tc := ⟨.hbm, 967, rfl⟩
abbrev main_call0_call3_c_44 : Ref sig .tc := ⟨.hbm, 968, rfl⟩
abbrev main_call0_call3_v174 : Ref sig .tc := ⟨.hbm, 969, rfl⟩
abbrev main_call0_v35_1 : Ref sig .tc := ⟨.hbm, 970, rfl⟩
abbrev main_call0_v36 : Ref sig .tc := ⟨.hbm, 971, rfl⟩
abbrev main_call0_v37_0 : Ref sig .tc := ⟨.hbm, 972, rfl⟩
abbrev main_v8 : Ref sig .tc := ⟨.hbm, 973, rfl⟩
abbrev main_v9 : Ref sig .tc := ⟨.hbm, 974, rfl⟩
abbrev main_c_2 : Ref sig .tc := ⟨.hbm, 975, rfl⟩
abbrev main_v10 : Ref sig .tc := ⟨.hbm, 976, rfl⟩
abbrev main_c_3 : Ref sig .tc := ⟨.hbm, 977, rfl⟩
abbrev main_v11 : Ref sig .tc := ⟨.hbm, 978, rfl⟩
abbrev main_v12 : Ref sig .tc := ⟨.hbm, 979, rfl⟩
abbrev main_c_4 : Ref sig .tc := ⟨.hbm, 980, rfl⟩
abbrev main_v13 : Ref sig .tc := ⟨.hbm, 981, rfl⟩
abbrev main_v14 : Ref sig .tc := ⟨.hbm, 982, rfl⟩
abbrev main_v15 : Ref sig .tc := ⟨.hbm, 983, rfl⟩
abbrev main_v16 : Ref sig .tc := ⟨.hbm, 984, rfl⟩
abbrev main_c_5 : Ref sig .tc := ⟨.hbm, 985, rfl⟩
abbrev main_v17 : Ref sig .tc := ⟨.hbm, 986, rfl⟩
abbrev main_v18 : Ref sig .tc := ⟨.hbm, 987, rfl⟩
abbrev main_v19 : Ref sig .tc := ⟨.hbm, 988, rfl⟩
abbrev main_v20 : Ref sig .tc := ⟨.hbm, 989, rfl⟩
abbrev main_v21 : Ref sig .tc := ⟨.hbm, 990, rfl⟩
abbrev main_v22 : Ref sig .tc := ⟨.hbm, 991, rfl⟩
abbrev main_v23 : Ref sig .tc := ⟨.hbm, 992, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1000000x64 : Shape := ⟨2, ![1000000, 64]⟩
abbrev S64x64 : Shape := ⟨2, ![64, 64]⟩
abbrev S64 : Shape := ⟨1, ![64]⟩
abbrev S_ : Shape := ⟨0, ![]⟩
abbrev S1 : Shape := ⟨1, ![1]⟩
abbrev S2 : Shape := ⟨1, ![2]⟩
abbrev S1000000 : Shape := ⟨1, ![1000000]⟩
abbrev S2x1 : Shape := ⟨2, ![2, 1]⟩
abbrev S2x2 : Shape := ⟨2, ![2, 2]⟩
abbrev S1x2 : Shape := ⟨2, ![1, 2]⟩
abbrev S100000 : Shape := ⟨1, ![100000]⟩
abbrev S100000x1 : Shape := ⟨2, ![100000, 1]⟩
abbrev S1x1 : Shape := ⟨2, ![1, 1]⟩
abbrev S100000x64 : Shape := ⟨2, ![100000, 64]⟩
abbrev S1x64 : Shape := ⟨2, ![1, 64]⟩

abbrev nBuf : Space → Nat
  | .hbm => 1025
  | .vmem => 0
  | .smem => 0
  | _ => 0

abbrev hbmTy0_0 (i : Nat) : BufTy := match i % 128 with
  | 0 => ⟨S1000000x64, .f32⟩
  | 1 => ⟨S64x64, .f32⟩
  | 2 => ⟨S64, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S1000000, .i32⟩
  | 14 => ⟨S1, .i32⟩
  | 15 => ⟨S_, .i32⟩
  | 16 => ⟨S1, .i32⟩
  | 17 => ⟨S_, .i32⟩
  | 18 => ⟨S2, .i64⟩
  | 19 => ⟨S_, .i64⟩
  | 20 => ⟨S2, .i64⟩
  | 21 => ⟨S2, .i64⟩
  | 22 => ⟨S_, .i64⟩
  | 23 => ⟨S2, .i64⟩
  | 24 => ⟨S2, .i64⟩
  | 25 => ⟨S2, .i32⟩
  | 26 => ⟨S2, .i32⟩
  | 27 => ⟨S_, .i32⟩
  | 28 => ⟨S_, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S1000000x64, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S2x1, .i32⟩
  | 122 => ⟨S2x1, .i32⟩
  | 123 => ⟨S2x2, .i32⟩
  | 124 => ⟨S1x2, .i32⟩
  | 125 => ⟨S2, .i32⟩
  | 126 => ⟨S1x2, .i32⟩
  | 127 => ⟨S2, .i32⟩
  | _ => ⟨S1000000x64, .f32⟩

abbrev hbmTy0_2 (i : Nat) : BufTy := match i % 128 with
  | 0 => ⟨S1, .i32⟩
  | 1 => ⟨S_, .i32⟩
  | 2 => ⟨S1, .i32⟩
  | 3 => ⟨S_, .i32⟩
  | 4 => ⟨S1000000, .i64⟩
  | 5 => ⟨S_, .i64⟩
  | 6 => ⟨S1000000, .i64⟩
  | 7 => ⟨S1000000, .i64⟩
  | 8 => ⟨S_, .i64⟩
  | 9 => ⟨S1000000, .i64⟩
  | 10 => ⟨S1000000, .i64⟩
  | 11 => ⟨S1000000, .i32⟩
  | 12 => ⟨S1000000, .i32⟩
  | 13 => ⟨S_, .i32⟩
  | 14 => ⟨S_, .i32⟩
  | 15 => ⟨S_, .i32⟩
  | 16 => ⟨S1000000, .i32⟩
  | 17 => ⟨S1000000, .i32⟩
  | 18 => ⟨S1000000, .i32⟩
  | 19 => ⟨S1000000, .i32⟩
  | 20 => ⟨S1000000, .i32⟩
  | 21 => ⟨S_, .i32⟩
  | 22 => ⟨S1000000, .i32⟩
  | 23 => ⟨S1000000, .i32⟩
  | 24 => ⟨S_, .i32⟩
  | 25 => ⟨S1000000, .i32⟩
  | 26 => ⟨S1000000, .i32⟩
  | 27 => ⟨S1000000, .i32⟩
  | 28 => ⟨S1000000, .i32⟩
  | 29 => ⟨S1000000, .i32⟩
  | 30 => ⟨S_, .i32⟩
  | 31 => ⟨S1000000, .i32⟩
  | 32 => ⟨S1000000, .i32⟩
  | 33 => ⟨S_, .i32⟩
  | 34 => ⟨S1000000, .i32⟩
  | 35 => ⟨S1000000, .i32⟩
  | 36 => ⟨S1000000, .i32⟩
  | 37 => ⟨S1000000, .i32⟩
  | 38 => ⟨S1000000, .i32⟩
  | 39 => ⟨S_, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S1000000, .i32⟩
  | 46 => ⟨S1000000, .i32⟩
  | 47 => ⟨S1000000, .i32⟩
  | 48 => ⟨S_, .i32⟩
  | 49 => ⟨S1000000, .i32⟩
  | 50 => ⟨S1000000, .i32⟩
  | 51 => ⟨S_, .i32⟩
  | 52 => ⟨S1000000, .i32⟩
  | 53 => ⟨S1000000, .i32⟩
  | 54 => ⟨S1000000, .i32⟩
  | 55 => ⟨S1000000, .i32⟩
  | 56 => ⟨S1000000, .i32⟩
  | 57 => ⟨S1000000, .i32⟩
  | 58 => ⟨S1000000, .i32⟩
  | 59 => ⟨S1000000, .i32⟩
  | 60 => ⟨S_, .i32⟩
  | 61 => ⟨S1000000, .i32⟩
  | 62 => ⟨S1000000, .i32⟩
  | 63 => ⟨S1000000, .i32⟩
  | 64 => ⟨S_, .i32⟩
  | 65 => ⟨S1000000, .i32⟩
  | 66 => ⟨S1000000, .i32⟩
  | 67 => ⟨S_, .i32⟩
  | 68 => ⟨S1000000, .i32⟩
  | 69 => ⟨S1000000, .i32⟩
  | 70 => ⟨S1000000, .i32⟩
  | 71 => ⟨S1000000, .i32⟩
  | 72 => ⟨S1000000, .i32⟩
  | 73 => ⟨S_, .i32⟩
  | 74 => ⟨S1000000, .i32⟩
  | 75 => ⟨S1000000, .i32⟩
  | 76 => ⟨S_, .i32⟩
  | 77 => ⟨S1000000, .i32⟩
  | 78 => ⟨S1000000, .i32⟩
  | 79 => ⟨S1000000, .i32⟩
  | 80 => ⟨S1000000, .i32⟩
  | 81 => ⟨S1000000, .i32⟩
  | 82 => ⟨S_, .i32⟩
  | 83 => ⟨S1000000, .i32⟩
  | 84 => ⟨S1000000, .i32⟩
  | 85 => ⟨S_, .i32⟩
  | 86 => ⟨S1000000, .i32⟩
  | 87 => ⟨S1000000, .i32⟩
  | 88 => ⟨S1000000, .i32⟩
  | 89 => ⟨S1000000, .i32⟩
  | 90 => ⟨S1000000, .i32⟩
  | 91 => ⟨S_, .i32⟩
  | 92 => ⟨S1000000, .i32⟩
  | 93 => ⟨S1000000, .i32⟩
  | 94 => ⟨S_, .i32⟩
  | 95 => ⟨S1000000, .i32⟩
  | 96 => ⟨S1000000, .i32⟩
  | 97 => ⟨S1000000, .i32⟩
  | 98 => ⟨S1000000, .i32⟩
  | 99 => ⟨S1000000, .i32⟩
  | 100 => ⟨S1000000, .i32⟩
  | 101 => ⟨S1000000, .i32⟩
  | 102 => ⟨S1000000, .i32⟩
  | 103 => ⟨S_, .i32⟩
  | 104 => ⟨S1000000, .i32⟩
  | 105 => ⟨S1000000, .i32⟩
  | 106 => ⟨S1000000, .i32⟩
  | 107 => ⟨S_, .i32⟩
  | 108 => ⟨S1000000, .i32⟩
  | 109 => ⟨S1000000, .i32⟩
  | 110 => ⟨S_, .i32⟩
  | 111 => ⟨S1000000, .i32⟩
  | 112 => ⟨S1000000, .i32⟩
  | 113 => ⟨S1000000, .i32⟩
  | 114 => ⟨S1000000, .i32⟩
  | 115 => ⟨S1000000, .i32⟩
  | 116 => ⟨S_, .i32⟩
  | 117 => ⟨S1000000, .i32⟩
  | 118 => ⟨S1000000, .i32⟩
  | 119 => ⟨S_, .i32⟩
  | 120 => ⟨S1000000, .i32⟩
  | 121 => ⟨S1000000, .i32⟩
  | 122 => ⟨S1000000, .i32⟩
  | 123 => ⟨S1000000, .i32⟩
  | 124 => ⟨S1000000, .i32⟩
  | 125 => ⟨S_, .i32⟩
  | 126 => ⟨S1000000, .i32⟩
  | 127 => ⟨S1000000, .i32⟩
  | _ => ⟨S1000000x64, .f32⟩

abbrev hbmTy0_3 (i : Nat) : BufTy := match i % 128 with
  | 0 => ⟨S_, .i32⟩
  | 1 => ⟨S1000000, .i32⟩
  | 2 => ⟨S1000000, .i32⟩
  | 3 => ⟨S1000000, .i32⟩
  | 4 => ⟨S1000000, .i32⟩
  | 5 => ⟨S1000000, .i32⟩
  | 6 => ⟨S_, .i32⟩
  | 7 => ⟨S1000000, .i32⟩
  | 8 => ⟨S1000000, .i32⟩
  | 9 => ⟨S_, .i32⟩
  | 10 => ⟨S1000000, .i32⟩
  | 11 => ⟨S1000000, .i32⟩
  | 12 => ⟨S1000000, .i32⟩
  | 13 => ⟨S1000000, .i32⟩
  | 14 => ⟨S1000000, .i32⟩
  | 15 => ⟨S1000000, .i32⟩
  | 16 => ⟨S1000000, .i32⟩
  | 17 => ⟨S1000000, .i32⟩
  | 18 => ⟨S_, .i32⟩
  | 19 => ⟨S1000000, .i32⟩
  | 20 => ⟨S1000000, .i32⟩
  | 21 => ⟨S1000000, .i32⟩
  | 22 => ⟨S_, .i32⟩
  | 23 => ⟨S1000000, .i32⟩
  | 24 => ⟨S1000000, .i32⟩
  | 25 => ⟨S_, .i32⟩
  | 26 => ⟨S1000000, .i32⟩
  | 27 => ⟨S1000000, .i32⟩
  | 28 => ⟨S1000000, .i32⟩
  | 29 => ⟨S1000000, .i32⟩
  | 30 => ⟨S1000000, .i32⟩
  | 31 => ⟨S_, .i32⟩
  | 32 => ⟨S1000000, .i32⟩
  | 33 => ⟨S1000000, .i32⟩
  | 34 => ⟨S_, .i32⟩
  | 35 => ⟨S1000000, .i32⟩
  | 36 => ⟨S1000000, .i32⟩
  | 37 => ⟨S1000000, .i32⟩
  | 38 => ⟨S1000000, .i32⟩
  | 39 => ⟨S1000000, .i32⟩
  | 40 => ⟨S_, .i32⟩
  | 41 => ⟨S1000000, .i32⟩
  | 42 => ⟨S1000000, .i32⟩
  | 43 => ⟨S_, .i32⟩
  | 44 => ⟨S1000000, .i32⟩
  | 45 => ⟨S1000000, .i32⟩
  | 46 => ⟨S1000000, .i32⟩
  | 47 => ⟨S1000000, .i32⟩
  | 48 => ⟨S1000000, .i32⟩
  | 49 => ⟨S_, .i32⟩
  | 50 => ⟨S1000000, .i32⟩
  | 51 => ⟨S1000000, .i32⟩
  | 52 => ⟨S_, .i32⟩
  | 53 => ⟨S1000000, .i32⟩
  | 54 => ⟨S1000000, .i32⟩
  | 55 => ⟨S1000000, .i32⟩
  | 56 => ⟨S1000000, .i32⟩
  | 57 => ⟨S1000000, .i32⟩
  | 58 => ⟨S1000000, .i32⟩
  | 59 => ⟨S1000000, .i32⟩
  | 60 => ⟨S1000000, .i32⟩
  | 61 => ⟨S_, .i32⟩
  | 62 => ⟨S1000000, .i32⟩
  | 63 => ⟨S1000000, .i32⟩
  | 64 => ⟨S1000000, .i32⟩
  | 65 => ⟨S_, .i32⟩
  | 66 => ⟨S1000000, .i32⟩
  | 67 => ⟨S1000000, .i32⟩
  | 68 => ⟨S_, .i32⟩
  | 69 => ⟨S1000000, .i32⟩
  | 70 => ⟨S1000000, .i32⟩
  | 71 => ⟨S1000000, .i32⟩
  | 72 => ⟨S1000000, .i32⟩
  | 73 => ⟨S1000000, .i32⟩
  | 74 => ⟨S_, .i32⟩
  | 75 => ⟨S1000000, .i32⟩
  | 76 => ⟨S1000000, .i32⟩
  | 77 => ⟨S_, .i32⟩
  | 78 => ⟨S1000000, .i32⟩
  | 79 => ⟨S1000000, .i32⟩
  | 80 => ⟨S1000000, .i32⟩
  | 81 => ⟨S1000000, .i32⟩
  | 82 => ⟨S1000000, .i32⟩
  | 83 => ⟨S_, .i32⟩
  | 84 => ⟨S1000000, .i32⟩
  | 85 => ⟨S1000000, .i32⟩
  | 86 => ⟨S_, .i32⟩
  | 87 => ⟨S1000000, .i32⟩
  | 88 => ⟨S1000000, .i32⟩
  | 89 => ⟨S1000000, .i32⟩
  | 90 => ⟨S1000000, .i32⟩
  | 91 => ⟨S1000000, .i32⟩
  | 92 => ⟨S_, .i32⟩
  | 93 => ⟨S1000000, .i32⟩
  | 94 => ⟨S1000000, .i32⟩
  | 95 => ⟨S_, .i32⟩
  | 96 => ⟨S1000000, .i32⟩
  | 97 => ⟨S1000000, .i32⟩
  | 98 => ⟨S1000000, .i32⟩
  | 99 => ⟨S1000000, .i32⟩
  | 100 => ⟨S1000000, .i32⟩
  | 101 => ⟨S1000000, .i32⟩
  | 102 => ⟨S1000000, .i32⟩
  | 103 => ⟨S1000000, .i32⟩
  | 104 => ⟨S_, .i32⟩
  | 105 => ⟨S1000000, .i32⟩
  | 106 => ⟨S1000000, .i32⟩
  | 107 => ⟨S1000000, .i32⟩
  | 108 => ⟨S1000000, .i32⟩
  | 109 => ⟨S1000000, .i32⟩
  | 110 => ⟨S1, .i32⟩
  | 111 => ⟨S_, .i32⟩
  | 112 => ⟨S1, .i32⟩
  | 113 => ⟨S_, .i32⟩
  | 114 => ⟨S2, .i64⟩
  | 115 => ⟨S_, .i64⟩
  | 116 => ⟨S2, .i64⟩
  | 117 => ⟨S2, .i64⟩
  | 118 => ⟨S_, .i64⟩
  | 119 => ⟨S2, .i64⟩
  | 120 => ⟨S2, .i64⟩
  | 121 => ⟨S2, .i32⟩
  | 122 => ⟨S2, .i32⟩
  | 123 => ⟨S_, .i32⟩
  | 124 => ⟨S_, .i32⟩
  | 125 => ⟨S_, .i32⟩
  | 126 => ⟨S2, .i32⟩
  | 127 => ⟨S2, .i32⟩
  | _ => ⟨S1000000x64, .f32⟩

abbrev hbmTy0_4 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S1000000x64, .f32⟩

abbrev hbmTy0_5 (i : Nat) : BufTy := match i % 128 with
  | 0 => ⟨S_, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S2x1, .i32⟩
  | 90 => ⟨S2x1, .i32⟩
  | 91 => ⟨S2x2, .i32⟩
  | 92 => ⟨S1x2, .i32⟩
  | 93 => ⟨S2, .i32⟩
  | 94 => ⟨S1x2, .i32⟩
  | 95 => ⟨S2, .i32⟩
  | 96 => ⟨S1, .i32⟩
  | 97 => ⟨S_, .i32⟩
  | 98 => ⟨S1, .i32⟩
  | 99 => ⟨S_, .i32⟩
  | 100 => ⟨S1000000, .i64⟩
  | 101 => ⟨S_, .i64⟩
  | 102 => ⟨S1000000, .i64⟩
  | 103 => ⟨S1000000, .i64⟩
  | 104 => ⟨S_, .i64⟩
  | 105 => ⟨S1000000, .i64⟩
  | 106 => ⟨S1000000, .i64⟩
  | 107 => ⟨S1000000, .i32⟩
  | 108 => ⟨S1000000, .i32⟩
  | 109 => ⟨S_, .i32⟩
  | 110 => ⟨S_, .i32⟩
  | 111 => ⟨S_, .i32⟩
  | 112 => ⟨S1000000, .i32⟩
  | 113 => ⟨S1000000, .i32⟩
  | 114 => ⟨S1000000, .i32⟩
  | 115 => ⟨S1000000, .i32⟩
  | 116 => ⟨S1000000, .i32⟩
  | 117 => ⟨S_, .i32⟩
  | 118 => ⟨S1000000, .i32⟩
  | 119 => ⟨S1000000, .i32⟩
  | 120 => ⟨S_, .i32⟩
  | 121 => ⟨S1000000, .i32⟩
  | 122 => ⟨S1000000, .i32⟩
  | 123 => ⟨S1000000, .i32⟩
  | 124 => ⟨S1000000, .i32⟩
  | 125 => ⟨S1000000, .i32⟩
  | 126 => ⟨S_, .i32⟩
  | 127 => ⟨S1000000, .i32⟩
  | _ => ⟨S1000000x64, .f32⟩

abbrev hbmTy0_6 (i : Nat) : BufTy := match i % 128 with
  | 0 => ⟨S1000000, .i32⟩
  | 1 => ⟨S_, .i32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S_, .i32⟩
  | 8 => ⟨S1000000, .i32⟩
  | 9 => ⟨S1000000, .i32⟩
  | 10 => ⟨S_, .i32⟩
  | 11 => ⟨S1000000, .i32⟩
  | 12 => ⟨S1000000, .i32⟩
  | 13 => ⟨S1000000, .i32⟩
  | 14 => ⟨S1000000, .i32⟩
  | 15 => ⟨S1000000, .i32⟩
  | 16 => ⟨S_, .i32⟩
  | 17 => ⟨S1000000, .i32⟩
  | 18 => ⟨S1000000, .i32⟩
  | 19 => ⟨S_, .i32⟩
  | 20 => ⟨S1000000, .i32⟩
  | 21 => ⟨S1000000, .i32⟩
  | 22 => ⟨S1000000, .i32⟩
  | 23 => ⟨S1000000, .i32⟩
  | 24 => ⟨S1000000, .i32⟩
  | 25 => ⟨S1000000, .i32⟩
  | 26 => ⟨S1000000, .i32⟩
  | 27 => ⟨S1000000, .i32⟩
  | 28 => ⟨S_, .i32⟩
  | 29 => ⟨S1000000, .i32⟩
  | 30 => ⟨S1000000, .i32⟩
  | 31 => ⟨S1000000, .i32⟩
  | 32 => ⟨S_, .i32⟩
  | 33 => ⟨S1000000, .i32⟩
  | 34 => ⟨S1000000, .i32⟩
  | 35 => ⟨S_, .i32⟩
  | 36 => ⟨S1000000, .i32⟩
  | 37 => ⟨S1000000, .i32⟩
  | 38 => ⟨S1000000, .i32⟩
  | 39 => ⟨S1000000, .i32⟩
  | 40 => ⟨S1000000, .i32⟩
  | 41 => ⟨S_, .i32⟩
  | 42 => ⟨S1000000, .i32⟩
  | 43 => ⟨S1000000, .i32⟩
  | 44 => ⟨S_, .i32⟩
  | 45 => ⟨S1000000, .i32⟩
  | 46 => ⟨S1000000, .i32⟩
  | 47 => ⟨S1000000, .i32⟩
  | 48 => ⟨S1000000, .i32⟩
  | 49 => ⟨S1000000, .i32⟩
  | 50 => ⟨S_, .i32⟩
  | 51 => ⟨S1000000, .i32⟩
  | 52 => ⟨S1000000, .i32⟩
  | 53 => ⟨S_, .i32⟩
  | 54 => ⟨S1000000, .i32⟩
  | 55 => ⟨S1000000, .i32⟩
  | 56 => ⟨S1000000, .i32⟩
  | 57 => ⟨S1000000, .i32⟩
  | 58 => ⟨S1000000, .i32⟩
  | 59 => ⟨S_, .i32⟩
  | 60 => ⟨S1000000, .i32⟩
  | 61 => ⟨S1000000, .i32⟩
  | 62 => ⟨S_, .i32⟩
  | 63 => ⟨S1000000, .i32⟩
  | 64 => ⟨S1000000, .i32⟩
  | 65 => ⟨S1000000, .i32⟩
  | 66 => ⟨S1000000, .i32⟩
  | 67 => ⟨S1000000, .i32⟩
  | 68 => ⟨S1000000, .i32⟩
  | 69 => ⟨S1000000, .i32⟩
  | 70 => ⟨S1000000, .i32⟩
  | 71 => ⟨S_, .i32⟩
  | 72 => ⟨S1000000, .i32⟩
  | 73 => ⟨S1000000, .i32⟩
  | 74 => ⟨S1000000, .i32⟩
  | 75 => ⟨S_, .i32⟩
  | 76 => ⟨S1000000, .i32⟩
  | 77 => ⟨S1000000, .i32⟩
  | 78 => ⟨S_, .i32⟩
  | 79 => ⟨S1000000, .i32⟩
  | 80 => ⟨S1000000, .i32⟩
  | 81 => ⟨S1000000, .i32⟩
  | 82 => ⟨S1000000, .i32⟩
  | 83 => ⟨S1000000, .i32⟩
  | 84 => ⟨S_, .i32⟩
  | 85 => ⟨S1000000, .i32⟩
  | 86 => ⟨S1000000, .i32⟩
  | 87 => ⟨S_, .i32⟩
  | 88 => ⟨S1000000, .i32⟩
  | 89 => ⟨S1000000, .i32⟩
  | 90 => ⟨S1000000, .i32⟩
  | 91 => ⟨S1000000, .i32⟩
  | 92 => ⟨S1000000, .i32⟩
  | 93 => ⟨S_, .i32⟩
  | 94 => ⟨S1000000, .i32⟩
  | 95 => ⟨S1000000, .i32⟩
  | 96 => ⟨S_, .i32⟩
  | 97 => ⟨S1000000, .i32⟩
  | 98 => ⟨S1000000, .i32⟩
  | 99 => ⟨S1000000, .i32⟩
  | 100 => ⟨S1000000, .i32⟩
  | 101 => ⟨S1000000, .i32⟩
  | 102 => ⟨S_, .i32⟩
  | 103 => ⟨S1000000, .i32⟩
  | 104 => ⟨S1000000, .i32⟩
  | 105 => ⟨S_, .i32⟩
  | 106 => ⟨S1000000, .i32⟩
  | 107 => ⟨S1000000, .i32⟩
  | 108 => ⟨S1000000, .i32⟩
  | 109 => ⟨S1000000, .i32⟩
  | 110 => ⟨S1000000, .i32⟩
  | 111 => ⟨S1000000, .i32⟩
  | 112 => ⟨S1000000, .i32⟩
  | 113 => ⟨S1000000, .i32⟩
  | 114 => ⟨S_, .i32⟩
  | 115 => ⟨S1000000, .i32⟩
  | 116 => ⟨S1000000, .i32⟩
  | 117 => ⟨S1000000, .i32⟩
  | 118 => ⟨S_, .i32⟩
  | 119 => ⟨S1000000, .i32⟩
  | 120 => ⟨S1000000, .i32⟩
  | 121 => ⟨S_, .i32⟩
  | 122 => ⟨S1000000, .i32⟩
  | 123 => ⟨S1000000, .i32⟩
  | 124 => ⟨S1000000, .i32⟩
  | 125 => ⟨S1000000, .i32⟩
  | 126 => ⟨S1000000, .i32⟩
  | 127 => ⟨S_, .i32⟩
  | _ => ⟨S1000000x64, .f32⟩

abbrev hbmTy0_7 (i : Nat) : BufTy := match i % 128 with
  | 0 => ⟨S1000000, .i32⟩
  | 1 => ⟨S1000000, .i32⟩
  | 2 => ⟨S_, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S_, .i32⟩
  | 9 => ⟨S1000000, .i32⟩
  | 10 => ⟨S1000000, .i32⟩
  | 11 => ⟨S_, .i32⟩
  | 12 => ⟨S1000000, .i32⟩
  | 13 => ⟨S1000000, .i32⟩
  | 14 => ⟨S1000000, .i32⟩
  | 15 => ⟨S1000000, .i32⟩
  | 16 => ⟨S1000000, .i32⟩
  | 17 => ⟨S_, .i32⟩
  | 18 => ⟨S1000000, .i32⟩
  | 19 => ⟨S1000000, .i32⟩
  | 20 => ⟨S_, .i32⟩
  | 21 => ⟨S1000000, .i32⟩
  | 22 => ⟨S1000000, .i32⟩
  | 23 => ⟨S1000000, .i32⟩
  | 24 => ⟨S1000000, .i32⟩
  | 25 => ⟨S1000000, .i32⟩
  | 26 => ⟨S1000000, .i32⟩
  | 27 => ⟨S1000000, .i32⟩
  | 28 => ⟨S1000000, .i32⟩
  | 29 => ⟨S_, .i32⟩
  | 30 => ⟨S1000000, .i32⟩
  | 31 => ⟨S1000000, .i32⟩
  | 32 => ⟨S1000000, .i32⟩
  | 33 => ⟨S_, .i32⟩
  | 34 => ⟨S1000000, .i32⟩
  | 35 => ⟨S1000000, .i32⟩
  | 36 => ⟨S_, .i32⟩
  | 37 => ⟨S1000000, .i32⟩
  | 38 => ⟨S1000000, .i32⟩
  | 39 => ⟨S1000000, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S_, .i32⟩
  | 46 => ⟨S1000000, .i32⟩
  | 47 => ⟨S1000000, .i32⟩
  | 48 => ⟨S1000000, .i32⟩
  | 49 => ⟨S1000000, .i32⟩
  | 50 => ⟨S1000000, .i32⟩
  | 51 => ⟨S_, .i32⟩
  | 52 => ⟨S1000000, .i32⟩
  | 53 => ⟨S1000000, .i32⟩
  | 54 => ⟨S_, .i32⟩
  | 55 => ⟨S1000000, .i32⟩
  | 56 => ⟨S1000000, .i32⟩
  | 57 => ⟨S1000000, .i32⟩
  | 58 => ⟨S1000000, .i32⟩
  | 59 => ⟨S1000000, .i32⟩
  | 60 => ⟨S_, .i32⟩
  | 61 => ⟨S1000000, .i32⟩
  | 62 => ⟨S1000000, .i32⟩
  | 63 => ⟨S_, .i32⟩
  | 64 => ⟨S1000000, .i32⟩
  | 65 => ⟨S1000000, .i32⟩
  | 66 => ⟨S1000000, .i32⟩
  | 67 => ⟨S1000000, .i32⟩
  | 68 => ⟨S1000000, .i32⟩
  | 69 => ⟨S1000000, .i32⟩
  | 70 => ⟨S1000000, .i32⟩
  | 71 => ⟨S1000000, .i32⟩
  | 72 => ⟨S_, .i32⟩
  | 73 => ⟨S1000000, .i32⟩
  | 74 => ⟨S1000000, .i32⟩
  | 75 => ⟨S1000000, .i32⟩
  | 76 => ⟨S1000000, .i32⟩
  | 77 => ⟨S1000000, .i32⟩
  | 78 => ⟨S100000, .i32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S1, .i32⟩
  | 88 => ⟨S_, .i32⟩
  | 89 => ⟨S100000x1, .i32⟩
  | 90 => ⟨S100000x1, .i1⟩
  | 91 => ⟨S1x1, .i32⟩
  | 92 => ⟨S100000x1, .i32⟩
  | 93 => ⟨S100000x1, .i1⟩
  | 94 => ⟨S100000x1, .i1⟩
  | 95 => ⟨S_, .i1⟩
  | 96 => ⟨S100000, .i1⟩
  | 97 => ⟨S100000x64, .f32⟩
  | 98 => ⟨S100000x64, .i1⟩
  | 99 => ⟨S_, .f32⟩
  | 100 => ⟨S100000x64, .f32⟩
  | 101 => ⟨S100000x64, .f32⟩
  | 102 => ⟨S64x64, .f32⟩
  | 103 => ⟨S100000x64, .f32⟩
  | 104 => ⟨S1x64, .f32⟩
  | 105 => ⟨S100000x64, .f32⟩
  | 106 => ⟨S100000x64, .f32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S1000000x64, .f32⟩
  | 116 => ⟨S_, .i1⟩
  | 117 => ⟨S1000000, .i1⟩
  | 118 => ⟨S_, .i32⟩
  | 119 => ⟨S100000, .i32⟩
  | 120 => ⟨S100000, .i1⟩
  | 121 => ⟨S_, .i32⟩
  | 122 => ⟨S100000, .i32⟩
  | 123 => ⟨S100000, .i32⟩
  | 124 => ⟨S100000, .i32⟩
  | 125 => ⟨S100000x1, .i32⟩
  | 126 => ⟨S_, .i1⟩
  | 127 => ⟨S100000, .i1⟩
  | _ => ⟨S1000000x64, .f32⟩

abbrev hbmTy0_8 (i : Nat) : BufTy := match i % 128 with
  | 0 => ⟨S1000000, .i1⟩
  | _ => ⟨S1000000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1000000x64, .f32⟩

abbrev bufTy : (tb : Table) → Fin (tcTables nBuf tb) → BufTy
  | .hbm, ⟨i, _⟩ => hbmTy i
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_c : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_c_0 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_call0_v0 : Ref sig .tc := ⟨.hbm, 27, rfl⟩
abbrev main_call0_call0_call0_c : Ref sig .tc := ⟨.hbm, 28, rfl⟩
abbrev main_call0_call0_call0_v1 : Ref sig .tc := ⟨.hbm, 29, rfl⟩
abbrev main_call0_call0_call0_v2 : Ref sig .tc := ⟨.hbm, 30, rfl⟩
abbrev main_call0_call0_call0_v3 : Ref sig .tc := ⟨.hbm, 31, rfl⟩
abbrev main_call0_call0_call0_v4 : Ref sig .tc := ⟨.hbm, 32, rfl⟩
abbrev main_call0_call0_call0_v5 : Ref sig .tc := ⟨.hbm, 33, rfl⟩
abbrev main_call0_call0_call0_v6 : Ref sig .tc := ⟨.hbm, 34, rfl⟩
abbrev main_call0_call0_call0_c_0 : Ref sig .tc := ⟨.hbm, 35, rfl⟩
abbrev main_call0_call0_call0_v7 : Ref sig .tc := ⟨.hbm, 36, rfl⟩
abbrev main_call0_call0_call0_v8 : Ref sig .tc := ⟨.hbm, 37, rfl⟩
abbrev main_call0_call0_call0_c_1 : Ref sig .tc := ⟨.hbm, 38, rfl⟩
abbrev main_call0_call0_call0_v9 : Ref sig .tc := ⟨.hbm, 39, rfl⟩
abbrev main_call0_call0_call0_v10 : Ref sig .tc := ⟨.hbm, 40, rfl⟩
abbrev main_call0_call0_call0_v11 : Ref sig .tc := ⟨.hbm, 41, rfl⟩
abbrev main_call0_call0_call0_v12 : Ref sig .tc := ⟨.hbm, 42, rfl⟩
abbrev main_call0_call0_call0_v13 : Ref sig .tc := ⟨.hbm, 43, rfl⟩
abbrev main_call0_call0_call0_c_2 : Ref sig .tc := ⟨.hbm, 44, rfl⟩
abbrev main_call0_call0_call0_v14 : Ref sig .tc := ⟨.hbm, 45, rfl⟩
abbrev main_call0_call0_call0_v15 : Ref sig .tc := ⟨.hbm, 46, rfl⟩
abbrev main_call0_call0_call0_c_3 : Ref sig .tc := ⟨.hbm, 47, rfl⟩
abbrev main_call0_call0_call0_v16 : Ref sig .tc := ⟨.hbm, 48, rfl⟩
abbrev main_call0_call0_call0_v17 : Ref sig .tc := ⟨.hbm, 49, rfl⟩
abbrev main_call0_call0_call0_v18 : Ref sig .tc := ⟨.hbm, 50, rfl⟩
abbrev main_call0_call0_call0_v19 : Ref sig .tc := ⟨.hbm, 51, rfl⟩
abbrev main_call0_call0_call0_v20 : Ref sig .tc := ⟨.hbm, 52, rfl⟩
abbrev main_call0_call0_call0_c_4 : Ref sig .tc := ⟨.hbm, 53, rfl⟩
abbrev main_call0_call0_call0_v21 : Ref sig .tc := ⟨.hbm, 54, rfl⟩
abbrev main_call0_call0_call0_v22 : Ref sig .tc := ⟨.hbm, 55, rfl⟩
abbrev main_call0_call0_call0_c_5 : Ref sig .tc := ⟨.hbm, 56, rfl⟩
abbrev main_call0_call0_call0_v23 : Ref sig .tc := ⟨.hbm, 57, rfl⟩
abbrev main_call0_call0_call0_v24 : Ref sig .tc := ⟨.hbm, 58, rfl⟩
abbrev main_call0_call0_call0_v25 : Ref sig .tc := ⟨.hbm, 59, rfl⟩
abbrev main_call0_call0_call0_v26 : Ref sig .tc := ⟨.hbm, 60, rfl⟩
abbrev main_call0_call0_call0_v27 : Ref sig .tc := ⟨.hbm, 61, rfl⟩
abbrev main_call0_call0_call0_c_6 : Ref sig .tc := ⟨.hbm, 62, rfl⟩
abbrev main_call0_call0_call0_v28 : Ref sig .tc := ⟨.hbm, 63, rfl⟩
abbrev main_call0_call0_call0_v29 : Ref sig .tc := ⟨.hbm, 64, rfl⟩
abbrev main_call0_call0_call0_c_7 : Ref sig .tc := ⟨.hbm, 65, rfl⟩
abbrev main_call0_call0_call0_v30 : Ref sig .tc := ⟨.hbm, 66, rfl⟩
abbrev main_call0_call0_call0_v31 : Ref sig .tc := ⟨.hbm, 67, rfl⟩
abbrev main_call0_call0_call0_v32 : Ref sig .tc := ⟨.hbm, 68, rfl⟩
abbrev main_call0_call0_call0_v33 : Ref sig .tc := ⟨.hbm, 69, rfl⟩
abbrev main_call0_call0_call0_v34 : Ref sig .tc := ⟨.hbm, 70, rfl⟩
abbrev main_call0_call0_call0_v35 : Ref sig .tc := ⟨.hbm, 71, rfl⟩
abbrev main_call0_call0_call0_v36 : Ref sig .tc := ⟨.hbm, 72, rfl⟩
abbrev main_call0_call0_call0_v37 : Ref sig .tc := ⟨.hbm, 73, rfl⟩
abbrev main_call0_call0_call0_c_8 : Ref sig .tc := ⟨.hbm, 74, rfl⟩
abbrev main_call0_call0_call0_v38 : Ref sig .tc := ⟨.hbm, 75, rfl⟩
abbrev main_call0_call0_call0_v39 : Ref sig .tc := ⟨.hbm, 76, rfl⟩
abbrev main_call0_call0_call0_v40 : Ref sig .tc := ⟨.hbm, 77, rfl⟩
abbrev main_call0_call0_call0_c_9 : Ref sig .tc := ⟨.hbm, 78, rfl⟩
abbrev main_call0_call0_call0_v41 : Ref sig .tc := ⟨.hbm, 79, rfl⟩
abbrev main_call0_call0_call0_v42 : Ref sig .tc := ⟨.hbm, 80, rfl⟩
abbrev main_call0_call0_call0_c_10 : Ref sig .tc := ⟨.hbm, 81, rfl⟩
abbrev main_call0_call0_call0_v43 : Ref sig .tc := ⟨.hbm, 82, rfl⟩
abbrev main_call0_call0_call0_v44 : Ref sig .tc := ⟨.hbm, 83, rfl⟩
abbrev main_call0_call0_call0_v45 : Ref sig .tc := ⟨.hbm, 84, rfl⟩
abbrev main_call0_call0_call0_v46 : Ref sig .tc := ⟨.hbm, 85, rfl⟩
abbrev main_call0_call0_call0_v47 : Ref sig .tc := ⟨.hbm, 86, rfl⟩
abbrev main_call0_call0_call0_c_11 : Ref sig .tc := ⟨.hbm, 87, rfl⟩
abbrev main_call0_call0_call0_v48 : Ref sig .tc := ⟨.hbm, 88, rfl⟩
abbrev main_call0_call0_call0_v49 : Ref sig .tc := ⟨.hbm, 89, rfl⟩
abbrev main_call0_call0_call0_c_12 : Ref sig .tc := ⟨.hbm, 90, rfl⟩
abbrev main_call0_call0_call0_v50 : Ref sig .tc := ⟨.hbm, 91, rfl⟩
abbrev main_call0_call0_call0_v51 : Ref sig .tc := ⟨.hbm, 92, rfl⟩
abbrev main_call0_call0_call0_v52 : Ref sig .tc := ⟨.hbm, 93, rfl⟩
abbrev main_call0_call0_call0_v53 : Ref sig .tc := ⟨.hbm, 94, rfl⟩
abbrev main_call0_call0_call0_v54 : Ref sig .tc := ⟨.hbm, 95, rfl⟩
abbrev main_call0_call0_call0_c_13 : Ref sig .tc := ⟨.hbm, 96, rfl⟩
abbrev main_call0_call0_call0_v55 : Ref sig .tc := ⟨.hbm, 97, rfl⟩
abbrev main_call0_call0_call0_v56 : Ref sig .tc := ⟨.hbm, 98, rfl⟩
abbrev main_call0_call0_call0_c_14 : Ref sig .tc := ⟨.hbm, 99, rfl⟩
abbrev main_call0_call0_call0_v57 : Ref sig .tc := ⟨.hbm, 100, rfl⟩
abbrev main_call0_call0_call0_v58 : Ref sig .tc := ⟨.hbm, 101, rfl⟩
abbrev main_call0_call0_call0_v59 : Ref sig .tc := ⟨.hbm, 102, rfl⟩
abbrev main_call0_call0_call0_v60 : Ref sig .tc := ⟨.hbm, 103, rfl⟩
abbrev main_call0_call0_call0_v61 : Ref sig .tc := ⟨.hbm, 104, rfl⟩
abbrev main_call0_call0_call0_c_15 : Ref sig .tc := ⟨.hbm, 105, rfl⟩
abbrev main_call0_call0_call0_v62 : Ref sig .tc := ⟨.hbm, 106, rfl⟩
abbrev main_call0_call0_call0_v63 : Ref sig .tc := ⟨.hbm, 107, rfl⟩
abbrev main_call0_call0_call0_c_16 : Ref sig .tc := ⟨.hbm, 108, rfl⟩
abbrev main_call0_call0_call0_v64 : Ref sig .tc := ⟨.hbm, 109, rfl⟩
abbrev main_call0_call0_call0_v65 : Ref sig .tc := ⟨.hbm, 110, rfl⟩
abbrev main_call0_call0_call0_v66 : Ref sig .tc := ⟨.hbm, 111, rfl⟩
abbrev main_call0_call0_call0_v67 : Ref sig .tc := ⟨.hbm, 112, rfl⟩
abbrev main_call0_call0_call0_v68 : Ref sig .tc := ⟨.hbm, 113, rfl⟩
abbrev main_call0_call0_call0_v69 : Ref sig .tc := ⟨.hbm, 114, rfl⟩
abbrev main_call0_call0_call0_v70 : Ref sig .tc := ⟨.hbm, 115, rfl⟩
abbrev main_call0_call0_call0_v71 : Ref sig .tc := ⟨.hbm, 116, rfl⟩
abbrev main_call0_call0_call0_c_17 : Ref sig .tc := ⟨.hbm, 117, rfl⟩
abbrev main_call0_call0_call0_v72 : Ref sig .tc := ⟨.hbm, 118, rfl⟩
abbrev main_call0_call0_call0_v73 : Ref sig .tc := ⟨.hbm, 119, rfl⟩
abbrev main_call0_call0_call0_v74 : Ref sig .tc := ⟨.hbm, 120, rfl⟩
abbrev main_call0_call0_call0_c_18 : Ref sig .tc := ⟨.hbm, 121, rfl⟩
abbrev main_call0_call0_call0_v75 : Ref sig .tc := ⟨.hbm, 122, rfl⟩
abbrev main_call0_call0_call0_v76 : Ref sig .tc := ⟨.hbm, 123, rfl⟩
abbrev main_call0_call0_call0_c_19 : Ref sig .tc := ⟨.hbm, 124, rfl⟩
abbrev main_call0_call0_call0_v77 : Ref sig .tc := ⟨.hbm, 125, rfl⟩
abbrev main_call0_call0_call0_v78 : Ref sig .tc := ⟨.hbm, 126, rfl⟩
abbrev main_call0_call0_call0_v79 : Ref sig .tc := ⟨.hbm, 127, rfl⟩
abbrev main_call0_call0_call0_v80 : Ref sig .tc := ⟨.hbm, 128, rfl⟩
abbrev main_call0_call0_call0_v81 : Ref sig .tc := ⟨.hbm, 129, rfl⟩
abbrev main_call0_call0_call0_c_20 : Ref sig .tc := ⟨.hbm, 130, rfl⟩
abbrev main_call0_call0_call0_v82 : Ref sig .tc := ⟨.hbm, 131, rfl⟩
abbrev main_call0_call0_call0_v83 : Ref sig .tc := ⟨.hbm, 132, rfl⟩
abbrev main_call0_call0_call0_c_21 : Ref sig .tc := ⟨.hbm, 133, rfl⟩
abbrev main_call0_call0_call0_v84 : Ref sig .tc := ⟨.hbm, 134, rfl⟩
abbrev main_call0_call0_call0_v85 : Ref sig .tc := ⟨.hbm, 135, rfl⟩
abbrev main_call0_call0_call0_v86 : Ref sig .tc := ⟨.hbm, 136, rfl⟩
abbrev main_call0_call0_call0_v87 : Ref sig .tc := ⟨.hbm, 137, rfl⟩
abbrev main_call0_call0_call0_v88 : Ref sig .tc := ⟨.hbm, 138, rfl⟩
abbrev main_call0_call0_call0_c_22 : Ref sig .tc := ⟨.hbm, 139, rfl⟩
abbrev main_call0_call0_call0_v89 : Ref sig .tc := ⟨.hbm, 140, rfl⟩
abbrev main_call0_call0_call0_v90 : Ref sig .tc := ⟨.hbm, 141, rfl⟩
abbrev main_call0_call0_call0_c_23 : Ref sig .tc := ⟨.hbm, 142, rfl⟩
abbrev main_call0_call0_call0_v91 : Ref sig .tc := ⟨.hbm, 143, rfl⟩
abbrev main_call0_call0_call0_v92 : Ref sig .tc := ⟨.hbm, 144, rfl⟩
abbrev main_call0_call0_call0_v93 : Ref sig .tc := ⟨.hbm, 145, rfl⟩
abbrev main_call0_call0_call0_v94 : Ref sig .tc := ⟨.hbm, 146, rfl⟩
abbrev main_call0_call0_call0_v95 : Ref sig .tc := ⟨.hbm, 147, rfl⟩
abbrev main_call0_call0_call0_c_24 : Ref sig .tc := ⟨.hbm, 148, rfl⟩
abbrev main_call0_call0_call0_v96 : Ref sig .tc := ⟨.hbm, 149, rfl⟩
abbrev main_call0_call0_call0_v97 : Ref sig .tc := ⟨.hbm, 150, rfl⟩
abbrev main_call0_call0_call0_c_25 : Ref sig .tc := ⟨.hbm, 151, rfl⟩
abbrev main_call0_call0_call0_v98 : Ref sig .tc := ⟨.hbm, 152, rfl⟩
abbrev main_call0_call0_call0_v99 : Ref sig .tc := ⟨.hbm, 153, rfl⟩
abbrev main_call0_call0_call0_v100 : Ref sig .tc := ⟨.hbm, 154, rfl⟩
abbrev main_call0_call0_call0_v101 : Ref sig .tc := ⟨.hbm, 155, rfl⟩
abbrev main_call0_call0_call0_v102 : Ref sig .tc := ⟨.hbm, 156, rfl⟩
abbrev main_call0_call0_call0_v103 : Ref sig .tc := ⟨.hbm, 157, rfl⟩
abbrev main_call0_call0_call0_v104 : Ref sig .tc := ⟨.hbm, 158, rfl⟩
abbrev main_call0_call0_call0_v105 : Ref sig .tc := ⟨.hbm, 159, rfl⟩
abbrev main_call0_call0_call0_c_26 : Ref sig .tc := ⟨.hbm, 160, rfl⟩
abbrev main_call0_call0_call0_v106 : Ref sig .tc := ⟨.hbm, 161, rfl⟩
abbrev main_call0_call0_call0_v107 : Ref sig .tc := ⟨.hbm, 162, rfl⟩
abbrev main_call0_call0_call0_v108 : Ref sig .tc := ⟨.hbm, 163, rfl⟩
abbrev main_call0_call0_call0_c_27 : Ref sig .tc := ⟨.hbm, 164, rfl⟩
abbrev main_call0_call0_call0_v109 : Ref sig .tc := ⟨.hbm, 165, rfl⟩
abbrev main_call0_call0_call0_v110 : Ref sig .tc := ⟨.hbm, 166, rfl⟩
abbrev main_call0_call0_call0_c_28 : Ref sig .tc := ⟨.hbm, 167, rfl⟩
abbrev main_call0_call0_call0_v111 : Ref sig .tc := ⟨.hbm, 168, rfl⟩
abbrev main_call0_call0_call0_v112 : Ref sig .tc := ⟨.hbm, 169, rfl⟩
abbrev main_call0_call0_call0_v113 : Ref sig .tc := ⟨.hbm, 170, rfl⟩
abbrev main_call0_call0_call0_v114 : Ref sig .tc := ⟨.hbm, 171, rfl⟩
abbrev main_call0_call0_call0_v115 : Ref sig .tc := ⟨.hbm, 172, rfl⟩
abbrev main_call0_call0_call0_c_29 : Ref sig .tc := ⟨.hbm, 173, rfl⟩
abbrev main_call0_call0_call0_v116 : Ref sig .tc := ⟨.hbm, 174, rfl⟩
abbrev main_call0_call0_call0_v117 : Ref sig .tc := ⟨.hbm, 175, rfl⟩
abbrev main_call0_call0_call0_c_30 : Ref sig .tc := ⟨.hbm, 176, rfl⟩
abbrev main_call0_call0_call0_v118 : Ref sig .tc := ⟨.hbm, 177, rfl⟩
abbrev main_call0_call0_call0_v119 : Ref sig .tc := ⟨.hbm, 178, rfl⟩
abbrev main_call0_call0_call0_v120 : Ref sig .tc := ⟨.hbm, 179, rfl⟩
abbrev main_call0_call0_call0_v121 : Ref sig .tc := ⟨.hbm, 180, rfl⟩
abbrev main_call0_call0_call0_v122 : Ref sig .tc := ⟨.hbm, 181, rfl⟩
abbrev main_call0_call0_call0_c_31 : Ref sig .tc := ⟨.hbm, 182, rfl⟩
abbrev main_call0_call0_call0_v123 : Ref sig .tc := ⟨.hbm, 183, rfl⟩
abbrev main_call0_call0_call0_v124 : Ref sig .tc := ⟨.hbm, 184, rfl⟩
abbrev main_call0_call0_call0_c_32 : Ref sig .tc := ⟨.hbm, 185, rfl⟩
abbrev main_call0_call0_call0_v125 : Ref sig .tc := ⟨.hbm, 186, rfl⟩
abbrev main_call0_call0_call0_v126 : Ref sig .tc := ⟨.hbm, 187, rfl⟩
abbrev main_call0_call0_call0_v127 : Ref sig .tc := ⟨.hbm, 188, rfl⟩
abbrev main_call0_call0_call0_v128 : Ref sig .tc := ⟨.hbm, 189, rfl⟩
abbrev main_call0_call0_call0_v129 : Ref sig .tc := ⟨.hbm, 190, rfl⟩
abbrev main_call0_call0_call0_c_33 : Ref sig .tc := ⟨.hbm, 191, rfl⟩
abbrev main_call0_call0_call0_v130 : Ref sig .tc := ⟨.hbm, 192, rfl⟩
abbrev main_call0_call0_call0_v131 : Ref sig .tc := ⟨.hbm, 193, rfl⟩
abbrev main_call0_call0_call0_c_34 : Ref sig .tc := ⟨.hbm, 194, rfl⟩
abbrev main_call0_call0_call0_v132 : Ref sig .tc := ⟨.hbm, 195, rfl⟩
abbrev main_call0_call0_call0_v133 : Ref sig .tc := ⟨.hbm, 196, rfl⟩
abbrev main_call0_call0_call0_v134 : Ref sig .tc := ⟨.hbm, 197, rfl⟩
abbrev main_call0_call0_call0_v135 : Ref sig .tc := ⟨.hbm, 198, rfl⟩
abbrev main_call0_call0_call0_v136 : Ref sig .tc := ⟨.hbm, 199, rfl⟩
abbrev main_call0_call0_call0_v137 : Ref sig .tc := ⟨.hbm, 200, rfl⟩
abbrev main_call0_call0_call0_v138 : Ref sig .tc := ⟨.hbm, 201, rfl⟩
abbrev main_call0_call0_call0_v139 : Ref sig .tc := ⟨.hbm, 202, rfl⟩
abbrev main_call0_call0_call0_c_35 : Ref sig .tc := ⟨.hbm, 203, rfl⟩
abbrev main_call0_call0_call0_v140 : Ref sig .tc := ⟨.hbm, 204, rfl⟩
abbrev main_call0_call0_call0_v141 : Ref sig .tc := ⟨.hbm, 205, rfl⟩
abbrev main_call0_call0_call0_v142 : Ref sig .tc := ⟨.hbm, 206, rfl⟩
abbrev main_call0_call0_call0_c_36 : Ref sig .tc := ⟨.hbm, 207, rfl⟩
abbrev main_call0_call0_call0_v143 : Ref sig .tc := ⟨.hbm, 208, rfl⟩
abbrev main_call0_call0_call0_v144 : Ref sig .tc := ⟨.hbm, 209, rfl⟩
abbrev main_call0_call0_call0_c_37 : Ref sig .tc := ⟨.hbm, 210, rfl⟩
abbrev main_call0_call0_call0_v145 : Ref sig .tc := ⟨.hbm, 211, rfl⟩
abbrev main_call0_call0_call0_v146 : Ref sig .tc := ⟨.hbm, 212, rfl⟩
abbrev main_call0_call0_call0_v147 : Ref sig .tc := ⟨.hbm, 213, rfl⟩
abbrev main_call0_call0_call0_v148 : Ref sig .tc := ⟨.hbm, 214, rfl⟩
abbrev main_call0_call0_call0_v149 : Ref sig .tc := ⟨.hbm, 215, rfl⟩
abbrev main_call0_call0_call0_c_38 : Ref sig .tc := ⟨.hbm, 216, rfl⟩
abbrev main_call0_call0_call0_v150 : Ref sig .tc := ⟨.hbm, 217, rfl⟩
abbrev main_call0_call0_call0_v151 : Ref sig .tc := ⟨.hbm, 218, rfl⟩
abbrev main_call0_call0_call0_c_39 : Ref sig .tc := ⟨.hbm, 219, rfl⟩
abbrev main_call0_call0_call0_v152 : Ref sig .tc := ⟨.hbm, 220, rfl⟩
abbrev main_call0_call0_call0_v153 : Ref sig .tc := ⟨.hbm, 221, rfl⟩
abbrev main_call0_call0_call0_v154 : Ref sig .tc := ⟨.hbm, 222, rfl⟩
abbrev main_call0_call0_call0_v155 : Ref sig .tc := ⟨.hbm, 223, rfl⟩
abbrev main_call0_call0_call0_v156 : Ref sig .tc := ⟨.hbm, 224, rfl⟩
abbrev main_call0_call0_call0_c_40 : Ref sig .tc := ⟨.hbm, 225, rfl⟩
abbrev main_call0_call0_call0_v157 : Ref sig .tc := ⟨.hbm, 226, rfl⟩
abbrev main_call0_call0_call0_v158 : Ref sig .tc := ⟨.hbm, 227, rfl⟩
abbrev main_call0_call0_call0_c_41 : Ref sig .tc := ⟨.hbm, 228, rfl⟩
abbrev main_call0_call0_call0_v159 : Ref sig .tc := ⟨.hbm, 229, rfl⟩
abbrev main_call0_call0_call0_v160 : Ref sig .tc := ⟨.hbm, 230, rfl⟩
abbrev main_call0_call0_call0_v161 : Ref sig .tc := ⟨.hbm, 231, rfl⟩
abbrev main_call0_call0_call0_v162 : Ref sig .tc := ⟨.hbm, 232, rfl⟩
abbrev main_call0_call0_call0_v163 : Ref sig .tc := ⟨.hbm, 233, rfl⟩
abbrev main_call0_call0_call0_c_42 : Ref sig .tc := ⟨.hbm, 234, rfl⟩
abbrev main_call0_call0_call0_v164 : Ref sig .tc := ⟨.hbm, 235, rfl⟩
abbrev main_call0_call0_call0_v165 : Ref sig .tc := ⟨.hbm, 236, rfl⟩
abbrev main_call0_call0_call0_c_43 : Ref sig .tc := ⟨.hbm, 237, rfl⟩
abbrev main_call0_call0_call0_v166 : Ref sig .tc := ⟨.hbm, 238, rfl⟩
abbrev main_call0_call0_call0_v167 : Ref sig .tc := ⟨.hbm, 239, rfl⟩
abbrev main_call0_call0_call0_v168 : Ref sig .tc := ⟨.hbm, 240, rfl⟩
abbrev main_call0_call0_call0_v169 : Ref sig .tc := ⟨.hbm, 241, rfl⟩
abbrev main_call0_call0_call0_v170 : Ref sig .tc := ⟨.hbm, 242, rfl⟩
abbrev main_call0_call0_v11_0 : Ref sig .tc := ⟨.hbm, 243, rfl⟩
abbrev main_call0_call0_call0_v172 : Ref sig .tc := ⟨.hbm, 244, rfl⟩
abbrev main_call0_call0_call0_v173 : Ref sig .tc := ⟨.hbm, 245, rfl⟩
abbrev main_call0_call0_call0_c_44 : Ref sig .tc := ⟨.hbm, 246, rfl⟩
abbrev main_call0_call0_call0_v174 : Ref sig .tc := ⟨.hbm, 247, rfl⟩
abbrev main_call0_call0_v11_1 : Ref sig .tc := ⟨.hbm, 248, rfl⟩
abbrev main_call0_call0_v12 : Ref sig .tc := ⟨.hbm, 249, rfl⟩
abbrev main_call0_call0_v13 : Ref sig .tc := ⟨.hbm, 250, rfl⟩
abbrev main_call0_v0 : Ref sig .tc := ⟨.hbm, 251, rfl⟩
abbrev main_call0_v1 : Ref sig .tc := ⟨.hbm, 252, rfl⟩
abbrev main_call0_v2 : Ref sig .tc := ⟨.hbm, 253, rfl⟩
abbrev main_call0_v3 : Ref sig .tc := ⟨.hbm, 254, rfl⟩
abbrev main_call0_v4 : Ref sig .tc := ⟨.hbm, 255, rfl⟩
abbrev main_call0_v5 : Ref sig .tc := ⟨.hbm, 256, rfl⟩
abbrev main_call0_v6 : Ref sig .tc := ⟨.hbm, 257, rfl⟩
abbrev main_call0_v7 : Ref sig .tc := ⟨.hbm, 258, rfl⟩
abbrev main_call0_v8 : Ref sig .tc := ⟨.hbm, 259, rfl⟩
abbrev main_call0_v9 : Ref sig .tc := ⟨.hbm, 260, rfl⟩
abbrev main_call0_c : Ref sig .tc := ⟨.hbm, 261, rfl⟩
abbrev main_call0_v10 : Ref sig .tc := ⟨.hbm, 262, rfl⟩
abbrev main_call0_v11 : Ref sig .tc := ⟨.hbm, 263, rfl⟩
abbrev main_call0_c_0 : Ref sig .tc := ⟨.hbm, 264, rfl⟩
abbrev main_call0_v12 : Ref sig .tc := ⟨.hbm, 265, rfl⟩
abbrev main_call0_v13 : Ref sig .tc := ⟨.hbm, 266, rfl⟩
abbrev main_call0_v14 : Ref sig .tc := ⟨.hbm, 267, rfl⟩
abbrev main_call0_v15 : Ref sig .tc := ⟨.hbm, 268, rfl⟩
abbrev main_call0_call1_v0 : Ref sig .tc := ⟨.hbm, 269, rfl⟩
abbrev main_call0_call1_c : Ref sig .tc := ⟨.hbm, 270, rfl⟩
abbrev main_call0_call1_v1 : Ref sig .tc := ⟨.hbm, 271, rfl⟩
abbrev main_call0_call1_v2 : Ref sig .tc := ⟨.hbm, 272, rfl⟩
abbrev main_call0_call1_v3 : Ref sig .tc := ⟨.hbm, 273, rfl⟩
abbrev main_call0_call1_v4 : Ref sig .tc := ⟨.hbm, 274, rfl⟩
abbrev main_call0_call1_v5 : Ref sig .tc := ⟨.hbm, 275, rfl⟩
abbrev main_call0_call1_v6 : Ref sig .tc := ⟨.hbm, 276, rfl⟩
abbrev main_call0_call1_c_0 : Ref sig .tc := ⟨.hbm, 277, rfl⟩
abbrev main_call0_call1_v7 : Ref sig .tc := ⟨.hbm, 278, rfl⟩
abbrev main_call0_call1_v8 : Ref sig .tc := ⟨.hbm, 279, rfl⟩
abbrev main_call0_call1_c_1 : Ref sig .tc := ⟨.hbm, 280, rfl⟩
abbrev main_call0_call1_v9 : Ref sig .tc := ⟨.hbm, 281, rfl⟩
abbrev main_call0_call1_v10 : Ref sig .tc := ⟨.hbm, 282, rfl⟩
abbrev main_call0_call1_v11 : Ref sig .tc := ⟨.hbm, 283, rfl⟩
abbrev main_call0_call1_v12 : Ref sig .tc := ⟨.hbm, 284, rfl⟩
abbrev main_call0_call1_v13 : Ref sig .tc := ⟨.hbm, 285, rfl⟩
abbrev main_call0_call1_c_2 : Ref sig .tc := ⟨.hbm, 286, rfl⟩
abbrev main_call0_call1_v14 : Ref sig .tc := ⟨.hbm, 287, rfl⟩
abbrev main_call0_call1_v15 : Ref sig .tc := ⟨.hbm, 288, rfl⟩
abbrev main_call0_call1_c_3 : Ref sig .tc := ⟨.hbm, 289, rfl⟩
abbrev main_call0_call1_v16 : Ref sig .tc := ⟨.hbm, 290, rfl⟩
abbrev main_call0_call1_v17 : Ref sig .tc := ⟨.hbm, 291, rfl⟩
abbrev main_call0_call1_v18 : Ref sig .tc := ⟨.hbm, 292, rfl⟩
abbrev main_call0_call1_v19 : Ref sig .tc := ⟨.hbm, 293, rfl⟩
abbrev main_call0_call1_v20 : Ref sig .tc := ⟨.hbm, 294, rfl⟩
abbrev main_call0_call1_c_4 : Ref sig .tc := ⟨.hbm, 295, rfl⟩
abbrev main_call0_call1_v21 : Ref sig .tc := ⟨.hbm, 296, rfl⟩
abbrev main_call0_call1_v22 : Ref sig .tc := ⟨.hbm, 297, rfl⟩
abbrev main_call0_call1_c_5 : Ref sig .tc := ⟨.hbm, 298, rfl⟩
abbrev main_call0_call1_v23 : Ref sig .tc := ⟨.hbm, 299, rfl⟩
abbrev main_call0_call1_v24 : Ref sig .tc := ⟨.hbm, 300, rfl⟩
abbrev main_call0_call1_v25 : Ref sig .tc := ⟨.hbm, 301, rfl⟩
abbrev main_call0_call1_v26 : Ref sig .tc := ⟨.hbm, 302, rfl⟩
abbrev main_call0_call1_v27 : Ref sig .tc := ⟨.hbm, 303, rfl⟩
abbrev main_call0_call1_c_6 : Ref sig .tc := ⟨.hbm, 304, rfl⟩
abbrev main_call0_call1_v28 : Ref sig .tc := ⟨.hbm, 305, rfl⟩
abbrev main_call0_call1_v29 : Ref sig .tc := ⟨.hbm, 306, rfl⟩
abbrev main_call0_call1_c_7 : Ref sig .tc := ⟨.hbm, 307, rfl⟩
abbrev main_call0_call1_v30 : Ref sig .tc := ⟨.hbm, 308, rfl⟩
abbrev main_call0_call1_v31 : Ref sig .tc := ⟨.hbm, 309, rfl⟩
abbrev main_call0_call1_v32 : Ref sig .tc := ⟨.hbm, 310, rfl⟩
abbrev main_call0_call1_v33 : Ref sig .tc := ⟨.hbm, 311, rfl⟩
abbrev main_call0_call1_v34 : Ref sig .tc := ⟨.hbm, 312, rfl⟩
abbrev main_call0_call1_v35 : Ref sig .tc := ⟨.hbm, 313, rfl⟩
abbrev main_call0_call1_v36 : Ref sig .tc := ⟨.hbm, 314, rfl⟩
abbrev main_call0_call1_v37 : Ref sig .tc := ⟨.hbm, 315, rfl⟩
abbrev main_call0_call1_c_8 : Ref sig .tc := ⟨.hbm, 316, rfl⟩
abbrev main_call0_call1_v38 : Ref sig .tc := ⟨.hbm, 317, rfl⟩
abbrev main_call0_call1_v39 : Ref sig .tc := ⟨.hbm, 318, rfl⟩
abbrev main_call0_call1_v40 : Ref sig .tc := ⟨.hbm, 319, rfl⟩
abbrev main_call0_call1_c_9 : Ref sig .tc := ⟨.hbm, 320, rfl⟩
abbrev main_call0_call1_v41 : Ref sig .tc := ⟨.hbm, 321, rfl⟩
abbrev main_call0_call1_v42 : Ref sig .tc := ⟨.hbm, 322, rfl⟩
abbrev main_call0_call1_c_10 : Ref sig .tc := ⟨.hbm, 323, rfl⟩
abbrev main_call0_call1_v43 : Ref sig .tc := ⟨.hbm, 324, rfl⟩
abbrev main_call0_call1_v44 : Ref sig .tc := ⟨.hbm, 325, rfl⟩
abbrev main_call0_call1_v45 : Ref sig .tc := ⟨.hbm, 326, rfl⟩
abbrev main_call0_call1_v46 : Ref sig .tc := ⟨.hbm, 327, rfl⟩
abbrev main_call0_call1_v47 : Ref sig .tc := ⟨.hbm, 328, rfl⟩
abbrev main_call0_call1_c_11 : Ref sig .tc := ⟨.hbm, 329, rfl⟩
abbrev main_call0_call1_v48 : Ref sig .tc := ⟨.hbm, 330, rfl⟩
abbrev main_call0_call1_v49 : Ref sig .tc := ⟨.hbm, 331, rfl⟩
abbrev main_call0_call1_c_12 : Ref sig .tc := ⟨.hbm, 332, rfl⟩
abbrev main_call0_call1_v50 : Ref sig .tc := ⟨.hbm, 333, rfl⟩
abbrev main_call0_call1_v51 : Ref sig .tc := ⟨.hbm, 334, rfl⟩
abbrev main_call0_call1_v52 : Ref sig .tc := ⟨.hbm, 335, rfl⟩
abbrev main_call0_call1_v53 : Ref sig .tc := ⟨.hbm, 336, rfl⟩
abbrev main_call0_call1_v54 : Ref sig .tc := ⟨.hbm, 337, rfl⟩
abbrev main_call0_call1_c_13 : Ref sig .tc := ⟨.hbm, 338, rfl⟩
abbrev main_call0_call1_v55 : Ref sig .tc := ⟨.hbm, 339, rfl⟩
abbrev main_call0_call1_v56 : Ref sig .tc := ⟨.hbm, 340, rfl⟩
abbrev main_call0_call1_c_14 : Ref sig .tc := ⟨.hbm, 341, rfl⟩
abbrev main_call0_call1_v57 : Ref sig .tc := ⟨.hbm, 342, rfl⟩
abbrev main_call0_call1_v58 : Ref sig .tc := ⟨.hbm, 343, rfl⟩
abbrev main_call0_call1_v59 : Ref sig .tc := ⟨.hbm, 344, rfl⟩
abbrev main_call0_call1_v60 : Ref sig .tc := ⟨.hbm, 345, rfl⟩
abbrev main_call0_call1_v61 : Ref sig .tc := ⟨.hbm, 346, rfl⟩
abbrev main_call0_call1_c_15 : Ref sig .tc := ⟨.hbm, 347, rfl⟩
abbrev main_call0_call1_v62 : Ref sig .tc := ⟨.hbm, 348, rfl⟩
abbrev main_call0_call1_v63 : Ref sig .tc := ⟨.hbm, 349, rfl⟩
abbrev main_call0_call1_c_16 : Ref sig .tc := ⟨.hbm, 350, rfl⟩
abbrev main_call0_call1_v64 : Ref sig .tc := ⟨.hbm, 351, rfl⟩
abbrev main_call0_call1_v65 : Ref sig .tc := ⟨.hbm, 352, rfl⟩
abbrev main_call0_call1_v66 : Ref sig .tc := ⟨.hbm, 353, rfl⟩
abbrev main_call0_call1_v67 : Ref sig .tc := ⟨.hbm, 354, rfl⟩
abbrev main_call0_call1_v68 : Ref sig .tc := ⟨.hbm, 355, rfl⟩
abbrev main_call0_call1_v69 : Ref sig .tc := ⟨.hbm, 356, rfl⟩
abbrev main_call0_call1_v70 : Ref sig .tc := ⟨.hbm, 357, rfl⟩
abbrev main_call0_call1_v71 : Ref sig .tc := ⟨.hbm, 358, rfl⟩
abbrev main_call0_call1_c_17 : Ref sig .tc := ⟨.hbm, 359, rfl⟩
abbrev main_call0_call1_v72 : Ref sig .tc := ⟨.hbm, 360, rfl⟩
abbrev main_call0_call1_v73 : Ref sig .tc := ⟨.hbm, 361, rfl⟩
abbrev main_call0_call1_v74 : Ref sig .tc := ⟨.hbm, 362, rfl⟩
abbrev main_call0_call1_c_18 : Ref sig .tc := ⟨.hbm, 363, rfl⟩
abbrev main_call0_call1_v75 : Ref sig .tc := ⟨.hbm, 364, rfl⟩
abbrev main_call0_call1_v76 : Ref sig .tc := ⟨.hbm, 365, rfl⟩
abbrev main_call0_call1_c_19 : Ref sig .tc := ⟨.hbm, 366, rfl⟩
abbrev main_call0_call1_v77 : Ref sig .tc := ⟨.hbm, 367, rfl⟩
abbrev main_call0_call1_v78 : Ref sig .tc := ⟨.hbm, 368, rfl⟩
abbrev main_call0_call1_v79 : Ref sig .tc := ⟨.hbm, 369, rfl⟩
abbrev main_call0_call1_v80 : Ref sig .tc := ⟨.hbm, 370, rfl⟩
abbrev main_call0_call1_v81 : Ref sig .tc := ⟨.hbm, 371, rfl⟩
abbrev main_call0_call1_c_20 : Ref sig .tc := ⟨.hbm, 372, rfl⟩
abbrev main_call0_call1_v82 : Ref sig .tc := ⟨.hbm, 373, rfl⟩
abbrev main_call0_call1_v83 : Ref sig .tc := ⟨.hbm, 374, rfl⟩
abbrev main_call0_call1_c_21 : Ref sig .tc := ⟨.hbm, 375, rfl⟩
abbrev main_call0_call1_v84 : Ref sig .tc := ⟨.hbm, 376, rfl⟩
abbrev main_call0_call1_v85 : Ref sig .tc := ⟨.hbm, 377, rfl⟩
abbrev main_call0_call1_v86 : Ref sig .tc := ⟨.hbm, 378, rfl⟩
abbrev main_call0_call1_v87 : Ref sig .tc := ⟨.hbm, 379, rfl⟩
abbrev main_call0_call1_v88 : Ref sig .tc := ⟨.hbm, 380, rfl⟩
abbrev main_call0_call1_c_22 : Ref sig .tc := ⟨.hbm, 381, rfl⟩
abbrev main_call0_call1_v89 : Ref sig .tc := ⟨.hbm, 382, rfl⟩
abbrev main_call0_call1_v90 : Ref sig .tc := ⟨.hbm, 383, rfl⟩
abbrev main_call0_call1_c_23 : Ref sig .tc := ⟨.hbm, 384, rfl⟩
abbrev main_call0_call1_v91 : Ref sig .tc := ⟨.hbm, 385, rfl⟩
abbrev main_call0_call1_v92 : Ref sig .tc := ⟨.hbm, 386, rfl⟩
abbrev main_call0_call1_v93 : Ref sig .tc := ⟨.hbm, 387, rfl⟩
abbrev main_call0_call1_v94 : Ref sig .tc := ⟨.hbm, 388, rfl⟩
abbrev main_call0_call1_v95 : Ref sig .tc := ⟨.hbm, 389, rfl⟩
abbrev main_call0_call1_c_24 : Ref sig .tc := ⟨.hbm, 390, rfl⟩
abbrev main_call0_call1_v96 : Ref sig .tc := ⟨.hbm, 391, rfl⟩
abbrev main_call0_call1_v97 : Ref sig .tc := ⟨.hbm, 392, rfl⟩
abbrev main_call0_call1_c_25 : Ref sig .tc := ⟨.hbm, 393, rfl⟩
abbrev main_call0_call1_v98 : Ref sig .tc := ⟨.hbm, 394, rfl⟩
abbrev main_call0_call1_v99 : Ref sig .tc := ⟨.hbm, 395, rfl⟩
abbrev main_call0_call1_v100 : Ref sig .tc := ⟨.hbm, 396, rfl⟩
abbrev main_call0_call1_v101 : Ref sig .tc := ⟨.hbm, 397, rfl⟩
abbrev main_call0_call1_v102 : Ref sig .tc := ⟨.hbm, 398, rfl⟩
abbrev main_call0_call1_v103 : Ref sig .tc := ⟨.hbm, 399, rfl⟩
abbrev main_call0_call1_v104 : Ref sig .tc := ⟨.hbm, 400, rfl⟩
abbrev main_call0_call1_v105 : Ref sig .tc := ⟨.hbm, 401, rfl⟩
abbrev main_call0_call1_c_26 : Ref sig .tc := ⟨.hbm, 402, rfl⟩
abbrev main_call0_call1_v106 : Ref sig .tc := ⟨.hbm, 403, rfl⟩
abbrev main_call0_call1_v107 : Ref sig .tc := ⟨.hbm, 404, rfl⟩
abbrev main_call0_call1_v108 : Ref sig .tc := ⟨.hbm, 405, rfl⟩
abbrev main_call0_call1_c_27 : Ref sig .tc := ⟨.hbm, 406, rfl⟩
abbrev main_call0_call1_v109 : Ref sig .tc := ⟨.hbm, 407, rfl⟩
abbrev main_call0_call1_v110 : Ref sig .tc := ⟨.hbm, 408, rfl⟩
abbrev main_call0_call1_c_28 : Ref sig .tc := ⟨.hbm, 409, rfl⟩
abbrev main_call0_call1_v111 : Ref sig .tc := ⟨.hbm, 410, rfl⟩
abbrev main_call0_call1_v112 : Ref sig .tc := ⟨.hbm, 411, rfl⟩
abbrev main_call0_call1_v113 : Ref sig .tc := ⟨.hbm, 412, rfl⟩
abbrev main_call0_call1_v114 : Ref sig .tc := ⟨.hbm, 413, rfl⟩
abbrev main_call0_call1_v115 : Ref sig .tc := ⟨.hbm, 414, rfl⟩
abbrev main_call0_call1_c_29 : Ref sig .tc := ⟨.hbm, 415, rfl⟩
abbrev main_call0_call1_v116 : Ref sig .tc := ⟨.hbm, 416, rfl⟩
abbrev main_call0_call1_v117 : Ref sig .tc := ⟨.hbm, 417, rfl⟩
abbrev main_call0_call1_c_30 : Ref sig .tc := ⟨.hbm, 418, rfl⟩
abbrev main_call0_call1_v118 : Ref sig .tc := ⟨.hbm, 419, rfl⟩
abbrev main_call0_call1_v119 : Ref sig .tc := ⟨.hbm, 420, rfl⟩
abbrev main_call0_call1_v120 : Ref sig .tc := ⟨.hbm, 421, rfl⟩
abbrev main_call0_call1_v121 : Ref sig .tc := ⟨.hbm, 422, rfl⟩
abbrev main_call0_call1_v122 : Ref sig .tc := ⟨.hbm, 423, rfl⟩
abbrev main_call0_call1_c_31 : Ref sig .tc := ⟨.hbm, 424, rfl⟩
abbrev main_call0_call1_v123 : Ref sig .tc := ⟨.hbm, 425, rfl⟩
abbrev main_call0_call1_v124 : Ref sig .tc := ⟨.hbm, 426, rfl⟩
abbrev main_call0_call1_c_32 : Ref sig .tc := ⟨.hbm, 427, rfl⟩
abbrev main_call0_call1_v125 : Ref sig .tc := ⟨.hbm, 428, rfl⟩
abbrev main_call0_call1_v126 : Ref sig .tc := ⟨.hbm, 429, rfl⟩
abbrev main_call0_call1_v127 : Ref sig .tc := ⟨.hbm, 430, rfl⟩
abbrev main_call0_call1_v128 : Ref sig .tc := ⟨.hbm, 431, rfl⟩
abbrev main_call0_call1_v129 : Ref sig .tc := ⟨.hbm, 432, rfl⟩
abbrev main_call0_call1_c_33 : Ref sig .tc := ⟨.hbm, 433, rfl⟩
abbrev main_call0_call1_v130 : Ref sig .tc := ⟨.hbm, 434, rfl⟩
abbrev main_call0_call1_v131 : Ref sig .tc := ⟨.hbm, 435, rfl⟩
abbrev main_call0_call1_c_34 : Ref sig .tc := ⟨.hbm, 436, rfl⟩
abbrev main_call0_call1_v132 : Ref sig .tc := ⟨.hbm, 437, rfl⟩
abbrev main_call0_call1_v133 : Ref sig .tc := ⟨.hbm, 438, rfl⟩
abbrev main_call0_call1_v134 : Ref sig .tc := ⟨.hbm, 439, rfl⟩
abbrev main_call0_call1_v135 : Ref sig .tc := ⟨.hbm, 440, rfl⟩
abbrev main_call0_call1_v136 : Ref sig .tc := ⟨.hbm, 441, rfl⟩
abbrev main_call0_call1_v137 : Ref sig .tc := ⟨.hbm, 442, rfl⟩
abbrev main_call0_call1_v138 : Ref sig .tc := ⟨.hbm, 443, rfl⟩
abbrev main_call0_call1_v139 : Ref sig .tc := ⟨.hbm, 444, rfl⟩
abbrev main_call0_call1_c_35 : Ref sig .tc := ⟨.hbm, 445, rfl⟩
abbrev main_call0_call1_v140 : Ref sig .tc := ⟨.hbm, 446, rfl⟩
abbrev main_call0_call1_v141 : Ref sig .tc := ⟨.hbm, 447, rfl⟩
abbrev main_call0_call1_v142 : Ref sig .tc := ⟨.hbm, 448, rfl⟩
abbrev main_call0_call1_c_36 : Ref sig .tc := ⟨.hbm, 449, rfl⟩
abbrev main_call0_call1_v143 : Ref sig .tc := ⟨.hbm, 450, rfl⟩
abbrev main_call0_call1_v144 : Ref sig .tc := ⟨.hbm, 451, rfl⟩
abbrev main_call0_call1_c_37 : Ref sig .tc := ⟨.hbm, 452, rfl⟩
abbrev main_call0_call1_v145 : Ref sig .tc := ⟨.hbm, 453, rfl⟩
abbrev main_call0_call1_v146 : Ref sig .tc := ⟨.hbm, 454, rfl⟩
abbrev main_call0_call1_v147 : Ref sig .tc := ⟨.hbm, 455, rfl⟩
abbrev main_call0_call1_v148 : Ref sig .tc := ⟨.hbm, 456, rfl⟩
abbrev main_call0_call1_v149 : Ref sig .tc := ⟨.hbm, 457, rfl⟩
abbrev main_call0_call1_c_38 : Ref sig .tc := ⟨.hbm, 458, rfl⟩
abbrev main_call0_call1_v150 : Ref sig .tc := ⟨.hbm, 459, rfl⟩
abbrev main_call0_call1_v151 : Ref sig .tc := ⟨.hbm, 460, rfl⟩
abbrev main_call0_call1_c_39 : Ref sig .tc := ⟨.hbm, 461, rfl⟩
abbrev main_call0_call1_v152 : Ref sig .tc := ⟨.hbm, 462, rfl⟩
abbrev main_call0_call1_v153 : Ref sig .tc := ⟨.hbm, 463, rfl⟩
abbrev main_call0_call1_v154 : Ref sig .tc := ⟨.hbm, 464, rfl⟩
abbrev main_call0_call1_v155 : Ref sig .tc := ⟨.hbm, 465, rfl⟩
abbrev main_call0_call1_v156 : Ref sig .tc := ⟨.hbm, 466, rfl⟩
abbrev main_call0_call1_c_40 : Ref sig .tc := ⟨.hbm, 467, rfl⟩
abbrev main_call0_call1_v157 : Ref sig .tc := ⟨.hbm, 468, rfl⟩
abbrev main_call0_call1_v158 : Ref sig .tc := ⟨.hbm, 469, rfl⟩
abbrev main_call0_call1_c_41 : Ref sig .tc := ⟨.hbm, 470, rfl⟩
abbrev main_call0_call1_v159 : Ref sig .tc := ⟨.hbm, 471, rfl⟩
abbrev main_call0_call1_v160 : Ref sig .tc := ⟨.hbm, 472, rfl⟩
abbrev main_call0_call1_v161 : Ref sig .tc := ⟨.hbm, 473, rfl⟩
abbrev main_call0_call1_v162 : Ref sig .tc := ⟨.hbm, 474, rfl⟩
abbrev main_call0_call1_v163 : Ref sig .tc := ⟨.hbm, 475, rfl⟩
abbrev main_call0_call1_c_42 : Ref sig .tc := ⟨.hbm, 476, rfl⟩
abbrev main_call0_call1_v164 : Ref sig .tc := ⟨.hbm, 477, rfl⟩
abbrev main_call0_call1_v165 : Ref sig .tc := ⟨.hbm, 478, rfl⟩
abbrev main_call0_call1_c_43 : Ref sig .tc := ⟨.hbm, 479, rfl⟩
abbrev main_call0_call1_v166 : Ref sig .tc := ⟨.hbm, 480, rfl⟩
abbrev main_call0_call1_v167 : Ref sig .tc := ⟨.hbm, 481, rfl⟩
abbrev main_call0_call1_v168 : Ref sig .tc := ⟨.hbm, 482, rfl⟩
abbrev main_call0_call1_v169 : Ref sig .tc := ⟨.hbm, 483, rfl⟩
abbrev main_call0_call1_v170 : Ref sig .tc := ⟨.hbm, 484, rfl⟩
abbrev main_call0_v16_0 : Ref sig .tc := ⟨.hbm, 485, rfl⟩
abbrev main_call0_call1_v172 : Ref sig .tc := ⟨.hbm, 486, rfl⟩
abbrev main_call0_call1_v173 : Ref sig .tc := ⟨.hbm, 487, rfl⟩
abbrev main_call0_call1_c_44 : Ref sig .tc := ⟨.hbm, 488, rfl⟩
abbrev main_call0_call1_v174 : Ref sig .tc := ⟨.hbm, 489, rfl⟩
abbrev main_call0_v16_1 : Ref sig .tc := ⟨.hbm, 490, rfl⟩
abbrev main_call0_v17 : Ref sig .tc := ⟨.hbm, 491, rfl⟩
abbrev main_call0_v18_0 : Ref sig .tc := ⟨.hbm, 492, rfl⟩
abbrev main_call0_v18_1 : Ref sig .tc := ⟨.hbm, 493, rfl⟩
abbrev main_call0_call2_v0 : Ref sig .tc := ⟨.hbm, 494, rfl⟩
abbrev main_call0_call2_v1 : Ref sig .tc := ⟨.hbm, 495, rfl⟩
abbrev main_call0_call2_v2 : Ref sig .tc := ⟨.hbm, 496, rfl⟩
abbrev main_call0_call2_v3 : Ref sig .tc := ⟨.hbm, 497, rfl⟩
abbrev main_call0_call2_v4 : Ref sig .tc := ⟨.hbm, 498, rfl⟩
abbrev main_call0_call2_c : Ref sig .tc := ⟨.hbm, 499, rfl⟩
abbrev main_call0_call2_v5 : Ref sig .tc := ⟨.hbm, 500, rfl⟩
abbrev main_call0_call2_v6 : Ref sig .tc := ⟨.hbm, 501, rfl⟩
abbrev main_call0_call2_c_0 : Ref sig .tc := ⟨.hbm, 502, rfl⟩
abbrev main_call0_call2_v7 : Ref sig .tc := ⟨.hbm, 503, rfl⟩
abbrev main_call0_call2_v8 : Ref sig .tc := ⟨.hbm, 504, rfl⟩
abbrev main_call0_call2_v9 : Ref sig .tc := ⟨.hbm, 505, rfl⟩
abbrev main_call0_call2_v10 : Ref sig .tc := ⟨.hbm, 506, rfl⟩
abbrev main_call0_call2_call0_v0 : Ref sig .tc := ⟨.hbm, 507, rfl⟩
abbrev main_call0_call2_call0_c : Ref sig .tc := ⟨.hbm, 508, rfl⟩
abbrev main_call0_call2_call0_v1 : Ref sig .tc := ⟨.hbm, 509, rfl⟩
abbrev main_call0_call2_call0_v2 : Ref sig .tc := ⟨.hbm, 510, rfl⟩
abbrev main_call0_call2_call0_v3 : Ref sig .tc := ⟨.hbm, 511, rfl⟩
abbrev main_call0_call2_call0_v4 : Ref sig .tc := ⟨.hbm, 512, rfl⟩
abbrev main_call0_call2_call0_v5 : Ref sig .tc := ⟨.hbm, 513, rfl⟩
abbrev main_call0_call2_call0_v6 : Ref sig .tc := ⟨.hbm, 514, rfl⟩
abbrev main_call0_call2_call0_c_0 : Ref sig .tc := ⟨.hbm, 515, rfl⟩
abbrev main_call0_call2_call0_v7 : Ref sig .tc := ⟨.hbm, 516, rfl⟩
abbrev main_call0_call2_call0_v8 : Ref sig .tc := ⟨.hbm, 517, rfl⟩
abbrev main_call0_call2_call0_c_1 : Ref sig .tc := ⟨.hbm, 518, rfl⟩
abbrev main_call0_call2_call0_v9 : Ref sig .tc := ⟨.hbm, 519, rfl⟩
abbrev main_call0_call2_call0_v10 : Ref sig .tc := ⟨.hbm, 520, rfl⟩
abbrev main_call0_call2_call0_v11 : Ref sig .tc := ⟨.hbm, 521, rfl⟩
abbrev main_call0_call2_call0_v12 : Ref sig .tc := ⟨.hbm, 522, rfl⟩
abbrev main_call0_call2_call0_v13 : Ref sig .tc := ⟨.hbm, 523, rfl⟩
abbrev main_call0_call2_call0_c_2 : Ref sig .tc := ⟨.hbm, 524, rfl⟩
abbrev main_call0_call2_call0_v14 : Ref sig .tc := ⟨.hbm, 525, rfl⟩
abbrev main_call0_call2_call0_v15 : Ref sig .tc := ⟨.hbm, 526, rfl⟩
abbrev main_call0_call2_call0_c_3 : Ref sig .tc := ⟨.hbm, 527, rfl⟩
abbrev main_call0_call2_call0_v16 : Ref sig .tc := ⟨.hbm, 528, rfl⟩
abbrev main_call0_call2_call0_v17 : Ref sig .tc := ⟨.hbm, 529, rfl⟩
abbrev main_call0_call2_call0_v18 : Ref sig .tc := ⟨.hbm, 530, rfl⟩
abbrev main_call0_call2_call0_v19 : Ref sig .tc := ⟨.hbm, 531, rfl⟩
abbrev main_call0_call2_call0_v20 : Ref sig .tc := ⟨.hbm, 532, rfl⟩
abbrev main_call0_call2_call0_c_4 : Ref sig .tc := ⟨.hbm, 533, rfl⟩
abbrev main_call0_call2_call0_v21 : Ref sig .tc := ⟨.hbm, 534, rfl⟩
abbrev main_call0_call2_call0_v22 : Ref sig .tc := ⟨.hbm, 535, rfl⟩
abbrev main_call0_call2_call0_c_5 : Ref sig .tc := ⟨.hbm, 536, rfl⟩
abbrev main_call0_call2_call0_v23 : Ref sig .tc := ⟨.hbm, 537, rfl⟩
abbrev main_call0_call2_call0_v24 : Ref sig .tc := ⟨.hbm, 538, rfl⟩
abbrev main_call0_call2_call0_v25 : Ref sig .tc := ⟨.hbm, 539, rfl⟩
abbrev main_call0_call2_call0_v26 : Ref sig .tc := ⟨.hbm, 540, rfl⟩
abbrev main_call0_call2_call0_v27 : Ref sig .tc := ⟨.hbm, 541, rfl⟩
abbrev main_call0_call2_call0_c_6 : Ref sig .tc := ⟨.hbm, 542, rfl⟩
abbrev main_call0_call2_call0_v28 : Ref sig .tc := ⟨.hbm, 543, rfl⟩
abbrev main_call0_call2_call0_v29 : Ref sig .tc := ⟨.hbm, 544, rfl⟩
abbrev main_call0_call2_call0_c_7 : Ref sig .tc := ⟨.hbm, 545, rfl⟩
abbrev main_call0_call2_call0_v30 : Ref sig .tc := ⟨.hbm, 546, rfl⟩
abbrev main_call0_call2_call0_v31 : Ref sig .tc := ⟨.hbm, 547, rfl⟩
abbrev main_call0_call2_call0_v32 : Ref sig .tc := ⟨.hbm, 548, rfl⟩
abbrev main_call0_call2_call0_v33 : Ref sig .tc := ⟨.hbm, 549, rfl⟩
abbrev main_call0_call2_call0_v34 : Ref sig .tc := ⟨.hbm, 550, rfl⟩
abbrev main_call0_call2_call0_v35 : Ref sig .tc := ⟨.hbm, 551, rfl⟩
abbrev main_call0_call2_call0_v36 : Ref sig .tc := ⟨.hbm, 552, rfl⟩
abbrev main_call0_call2_call0_v37 : Ref sig .tc := ⟨.hbm, 553, rfl⟩
abbrev main_call0_call2_call0_c_8 : Ref sig .tc := ⟨.hbm, 554, rfl⟩
abbrev main_call0_call2_call0_v38 : Ref sig .tc := ⟨.hbm, 555, rfl⟩
abbrev main_call0_call2_call0_v39 : Ref sig .tc := ⟨.hbm, 556, rfl⟩
abbrev main_call0_call2_call0_v40 : Ref sig .tc := ⟨.hbm, 557, rfl⟩
abbrev main_call0_call2_call0_c_9 : Ref sig .tc := ⟨.hbm, 558, rfl⟩
abbrev main_call0_call2_call0_v41 : Ref sig .tc := ⟨.hbm, 559, rfl⟩
abbrev main_call0_call2_call0_v42 : Ref sig .tc := ⟨.hbm, 560, rfl⟩
abbrev main_call0_call2_call0_c_10 : Ref sig .tc := ⟨.hbm, 561, rfl⟩
abbrev main_call0_call2_call0_v43 : Ref sig .tc := ⟨.hbm, 562, rfl⟩
abbrev main_call0_call2_call0_v44 : Ref sig .tc := ⟨.hbm, 563, rfl⟩
abbrev main_call0_call2_call0_v45 : Ref sig .tc := ⟨.hbm, 564, rfl⟩
abbrev main_call0_call2_call0_v46 : Ref sig .tc := ⟨.hbm, 565, rfl⟩
abbrev main_call0_call2_call0_v47 : Ref sig .tc := ⟨.hbm, 566, rfl⟩
abbrev main_call0_call2_call0_c_11 : Ref sig .tc := ⟨.hbm, 567, rfl⟩
abbrev main_call0_call2_call0_v48 : Ref sig .tc := ⟨.hbm, 568, rfl⟩
abbrev main_call0_call2_call0_v49 : Ref sig .tc := ⟨.hbm, 569, rfl⟩
abbrev main_call0_call2_call0_c_12 : Ref sig .tc := ⟨.hbm, 570, rfl⟩
abbrev main_call0_call2_call0_v50 : Ref sig .tc := ⟨.hbm, 571, rfl⟩
abbrev main_call0_call2_call0_v51 : Ref sig .tc := ⟨.hbm, 572, rfl⟩
abbrev main_call0_call2_call0_v52 : Ref sig .tc := ⟨.hbm, 573, rfl⟩
abbrev main_call0_call2_call0_v53 : Ref sig .tc := ⟨.hbm, 574, rfl⟩
abbrev main_call0_call2_call0_v54 : Ref sig .tc := ⟨.hbm, 575, rfl⟩
abbrev main_call0_call2_call0_c_13 : Ref sig .tc := ⟨.hbm, 576, rfl⟩
abbrev main_call0_call2_call0_v55 : Ref sig .tc := ⟨.hbm, 577, rfl⟩
abbrev main_call0_call2_call0_v56 : Ref sig .tc := ⟨.hbm, 578, rfl⟩
abbrev main_call0_call2_call0_c_14 : Ref sig .tc := ⟨.hbm, 579, rfl⟩
abbrev main_call0_call2_call0_v57 : Ref sig .tc := ⟨.hbm, 580, rfl⟩
abbrev main_call0_call2_call0_v58 : Ref sig .tc := ⟨.hbm, 581, rfl⟩
abbrev main_call0_call2_call0_v59 : Ref sig .tc := ⟨.hbm, 582, rfl⟩
abbrev main_call0_call2_call0_v60 : Ref sig .tc := ⟨.hbm, 583, rfl⟩
abbrev main_call0_call2_call0_v61 : Ref sig .tc := ⟨.hbm, 584, rfl⟩
abbrev main_call0_call2_call0_c_15 : Ref sig .tc := ⟨.hbm, 585, rfl⟩
abbrev main_call0_call2_call0_v62 : Ref sig .tc := ⟨.hbm, 586, rfl⟩
abbrev main_call0_call2_call0_v63 : Ref sig .tc := ⟨.hbm, 587, rfl⟩
abbrev main_call0_call2_call0_c_16 : Ref sig .tc := ⟨.hbm, 588, rfl⟩
abbrev main_call0_call2_call0_v64 : Ref sig .tc := ⟨.hbm, 589, rfl⟩
abbrev main_call0_call2_call0_v65 : Ref sig .tc := ⟨.hbm, 590, rfl⟩
abbrev main_call0_call2_call0_v66 : Ref sig .tc := ⟨.hbm, 591, rfl⟩
abbrev main_call0_call2_call0_v67 : Ref sig .tc := ⟨.hbm, 592, rfl⟩
abbrev main_call0_call2_call0_v68 : Ref sig .tc := ⟨.hbm, 593, rfl⟩
abbrev main_call0_call2_call0_v69 : Ref sig .tc := ⟨.hbm, 594, rfl⟩
abbrev main_call0_call2_call0_v70 : Ref sig .tc := ⟨.hbm, 595, rfl⟩
abbrev main_call0_call2_call0_v71 : Ref sig .tc := ⟨.hbm, 596, rfl⟩
abbrev main_call0_call2_call0_c_17 : Ref sig .tc := ⟨.hbm, 597, rfl⟩
abbrev main_call0_call2_call0_v72 : Ref sig .tc := ⟨.hbm, 598, rfl⟩
abbrev main_call0_call2_call0_v73 : Ref sig .tc := ⟨.hbm, 599, rfl⟩
abbrev main_call0_call2_call0_v74 : Ref sig .tc := ⟨.hbm, 600, rfl⟩
abbrev main_call0_call2_call0_c_18 : Ref sig .tc := ⟨.hbm, 601, rfl⟩
abbrev main_call0_call2_call0_v75 : Ref sig .tc := ⟨.hbm, 602, rfl⟩
abbrev main_call0_call2_call0_v76 : Ref sig .tc := ⟨.hbm, 603, rfl⟩
abbrev main_call0_call2_call0_c_19 : Ref sig .tc := ⟨.hbm, 604, rfl⟩
abbrev main_call0_call2_call0_v77 : Ref sig .tc := ⟨.hbm, 605, rfl⟩
abbrev main_call0_call2_call0_v78 : Ref sig .tc := ⟨.hbm, 606, rfl⟩
abbrev main_call0_call2_call0_v79 : Ref sig .tc := ⟨.hbm, 607, rfl⟩
abbrev main_call0_call2_call0_v80 : Ref sig .tc := ⟨.hbm, 608, rfl⟩
abbrev main_call0_call2_call0_v81 : Ref sig .tc := ⟨.hbm, 609, rfl⟩
abbrev main_call0_call2_call0_c_20 : Ref sig .tc := ⟨.hbm, 610, rfl⟩
abbrev main_call0_call2_call0_v82 : Ref sig .tc := ⟨.hbm, 611, rfl⟩
abbrev main_call0_call2_call0_v83 : Ref sig .tc := ⟨.hbm, 612, rfl⟩
abbrev main_call0_call2_call0_c_21 : Ref sig .tc := ⟨.hbm, 613, rfl⟩
abbrev main_call0_call2_call0_v84 : Ref sig .tc := ⟨.hbm, 614, rfl⟩
abbrev main_call0_call2_call0_v85 : Ref sig .tc := ⟨.hbm, 615, rfl⟩
abbrev main_call0_call2_call0_v86 : Ref sig .tc := ⟨.hbm, 616, rfl⟩
abbrev main_call0_call2_call0_v87 : Ref sig .tc := ⟨.hbm, 617, rfl⟩
abbrev main_call0_call2_call0_v88 : Ref sig .tc := ⟨.hbm, 618, rfl⟩
abbrev main_call0_call2_call0_c_22 : Ref sig .tc := ⟨.hbm, 619, rfl⟩
abbrev main_call0_call2_call0_v89 : Ref sig .tc := ⟨.hbm, 620, rfl⟩
abbrev main_call0_call2_call0_v90 : Ref sig .tc := ⟨.hbm, 621, rfl⟩
abbrev main_call0_call2_call0_c_23 : Ref sig .tc := ⟨.hbm, 622, rfl⟩
abbrev main_call0_call2_call0_v91 : Ref sig .tc := ⟨.hbm, 623, rfl⟩
abbrev main_call0_call2_call0_v92 : Ref sig .tc := ⟨.hbm, 624, rfl⟩
abbrev main_call0_call2_call0_v93 : Ref sig .tc := ⟨.hbm, 625, rfl⟩
abbrev main_call0_call2_call0_v94 : Ref sig .tc := ⟨.hbm, 626, rfl⟩
abbrev main_call0_call2_call0_v95 : Ref sig .tc := ⟨.hbm, 627, rfl⟩
abbrev main_call0_call2_call0_c_24 : Ref sig .tc := ⟨.hbm, 628, rfl⟩
abbrev main_call0_call2_call0_v96 : Ref sig .tc := ⟨.hbm, 629, rfl⟩
abbrev main_call0_call2_call0_v97 : Ref sig .tc := ⟨.hbm, 630, rfl⟩
abbrev main_call0_call2_call0_c_25 : Ref sig .tc := ⟨.hbm, 631, rfl⟩
abbrev main_call0_call2_call0_v98 : Ref sig .tc := ⟨.hbm, 632, rfl⟩
abbrev main_call0_call2_call0_v99 : Ref sig .tc := ⟨.hbm, 633, rfl⟩
abbrev main_call0_call2_call0_v100 : Ref sig .tc := ⟨.hbm, 634, rfl⟩
abbrev main_call0_call2_call0_v101 : Ref sig .tc := ⟨.hbm, 635, rfl⟩
abbrev main_call0_call2_call0_v102 : Ref sig .tc := ⟨.hbm, 636, rfl⟩
abbrev main_call0_call2_call0_v103 : Ref sig .tc := ⟨.hbm, 637, rfl⟩
abbrev main_call0_call2_call0_v104 : Ref sig .tc := ⟨.hbm, 638, rfl⟩
abbrev main_call0_call2_call0_v105 : Ref sig .tc := ⟨.hbm, 639, rfl⟩
abbrev main_call0_call2_call0_c_26 : Ref sig .tc := ⟨.hbm, 640, rfl⟩
abbrev main_call0_call2_call0_v106 : Ref sig .tc := ⟨.hbm, 641, rfl⟩
abbrev main_call0_call2_call0_v107 : Ref sig .tc := ⟨.hbm, 642, rfl⟩
abbrev main_call0_call2_call0_v108 : Ref sig .tc := ⟨.hbm, 643, rfl⟩
abbrev main_call0_call2_call0_c_27 : Ref sig .tc := ⟨.hbm, 644, rfl⟩
abbrev main_call0_call2_call0_v109 : Ref sig .tc := ⟨.hbm, 645, rfl⟩
abbrev main_call0_call2_call0_v110 : Ref sig .tc := ⟨.hbm, 646, rfl⟩
abbrev main_call0_call2_call0_c_28 : Ref sig .tc := ⟨.hbm, 647, rfl⟩
abbrev main_call0_call2_call0_v111 : Ref sig .tc := ⟨.hbm, 648, rfl⟩
abbrev main_call0_call2_call0_v112 : Ref sig .tc := ⟨.hbm, 649, rfl⟩
abbrev main_call0_call2_call0_v113 : Ref sig .tc := ⟨.hbm, 650, rfl⟩
abbrev main_call0_call2_call0_v114 : Ref sig .tc := ⟨.hbm, 651, rfl⟩
abbrev main_call0_call2_call0_v115 : Ref sig .tc := ⟨.hbm, 652, rfl⟩
abbrev main_call0_call2_call0_c_29 : Ref sig .tc := ⟨.hbm, 653, rfl⟩
abbrev main_call0_call2_call0_v116 : Ref sig .tc := ⟨.hbm, 654, rfl⟩
abbrev main_call0_call2_call0_v117 : Ref sig .tc := ⟨.hbm, 655, rfl⟩
abbrev main_call0_call2_call0_c_30 : Ref sig .tc := ⟨.hbm, 656, rfl⟩
abbrev main_call0_call2_call0_v118 : Ref sig .tc := ⟨.hbm, 657, rfl⟩
abbrev main_call0_call2_call0_v119 : Ref sig .tc := ⟨.hbm, 658, rfl⟩
abbrev main_call0_call2_call0_v120 : Ref sig .tc := ⟨.hbm, 659, rfl⟩
abbrev main_call0_call2_call0_v121 : Ref sig .tc := ⟨.hbm, 660, rfl⟩
abbrev main_call0_call2_call0_v122 : Ref sig .tc := ⟨.hbm, 661, rfl⟩
abbrev main_call0_call2_call0_c_31 : Ref sig .tc := ⟨.hbm, 662, rfl⟩
abbrev main_call0_call2_call0_v123 : Ref sig .tc := ⟨.hbm, 663, rfl⟩
abbrev main_call0_call2_call0_v124 : Ref sig .tc := ⟨.hbm, 664, rfl⟩
abbrev main_call0_call2_call0_c_32 : Ref sig .tc := ⟨.hbm, 665, rfl⟩
abbrev main_call0_call2_call0_v125 : Ref sig .tc := ⟨.hbm, 666, rfl⟩
abbrev main_call0_call2_call0_v126 : Ref sig .tc := ⟨.hbm, 667, rfl⟩
abbrev main_call0_call2_call0_v127 : Ref sig .tc := ⟨.hbm, 668, rfl⟩
abbrev main_call0_call2_call0_v128 : Ref sig .tc := ⟨.hbm, 669, rfl⟩
abbrev main_call0_call2_call0_v129 : Ref sig .tc := ⟨.hbm, 670, rfl⟩
abbrev main_call0_call2_call0_c_33 : Ref sig .tc := ⟨.hbm, 671, rfl⟩
abbrev main_call0_call2_call0_v130 : Ref sig .tc := ⟨.hbm, 672, rfl⟩
abbrev main_call0_call2_call0_v131 : Ref sig .tc := ⟨.hbm, 673, rfl⟩
abbrev main_call0_call2_call0_c_34 : Ref sig .tc := ⟨.hbm, 674, rfl⟩
abbrev main_call0_call2_call0_v132 : Ref sig .tc := ⟨.hbm, 675, rfl⟩
abbrev main_call0_call2_call0_v133 : Ref sig .tc := ⟨.hbm, 676, rfl⟩
abbrev main_call0_call2_call0_v134 : Ref sig .tc := ⟨.hbm, 677, rfl⟩
abbrev main_call0_call2_call0_v135 : Ref sig .tc := ⟨.hbm, 678, rfl⟩
abbrev main_call0_call2_call0_v136 : Ref sig .tc := ⟨.hbm, 679, rfl⟩
abbrev main_call0_call2_call0_v137 : Ref sig .tc := ⟨.hbm, 680, rfl⟩
abbrev main_call0_call2_call0_v138 : Ref sig .tc := ⟨.hbm, 681, rfl⟩
abbrev main_call0_call2_call0_v139 : Ref sig .tc := ⟨.hbm, 682, rfl⟩
abbrev main_call0_call2_call0_c_35 : Ref sig .tc := ⟨.hbm, 683, rfl⟩
abbrev main_call0_call2_call0_v140 : Ref sig .tc := ⟨.hbm, 684, rfl⟩
abbrev main_call0_call2_call0_v141 : Ref sig .tc := ⟨.hbm, 685, rfl⟩
abbrev main_call0_call2_call0_v142 : Ref sig .tc := ⟨.hbm, 686, rfl⟩
abbrev main_call0_call2_call0_c_36 : Ref sig .tc := ⟨.hbm, 687, rfl⟩
abbrev main_call0_call2_call0_v143 : Ref sig .tc := ⟨.hbm, 688, rfl⟩
abbrev main_call0_call2_call0_v144 : Ref sig .tc := ⟨.hbm, 689, rfl⟩
abbrev main_call0_call2_call0_c_37 : Ref sig .tc := ⟨.hbm, 690, rfl⟩
abbrev main_call0_call2_call0_v145 : Ref sig .tc := ⟨.hbm, 691, rfl⟩
abbrev main_call0_call2_call0_v146 : Ref sig .tc := ⟨.hbm, 692, rfl⟩
abbrev main_call0_call2_call0_v147 : Ref sig .tc := ⟨.hbm, 693, rfl⟩
abbrev main_call0_call2_call0_v148 : Ref sig .tc := ⟨.hbm, 694, rfl⟩
abbrev main_call0_call2_call0_v149 : Ref sig .tc := ⟨.hbm, 695, rfl⟩
abbrev main_call0_call2_call0_c_38 : Ref sig .tc := ⟨.hbm, 696, rfl⟩
abbrev main_call0_call2_call0_v150 : Ref sig .tc := ⟨.hbm, 697, rfl⟩
abbrev main_call0_call2_call0_v151 : Ref sig .tc := ⟨.hbm, 698, rfl⟩
abbrev main_call0_call2_call0_c_39 : Ref sig .tc := ⟨.hbm, 699, rfl⟩
abbrev main_call0_call2_call0_v152 : Ref sig .tc := ⟨.hbm, 700, rfl⟩
abbrev main_call0_call2_call0_v153 : Ref sig .tc := ⟨.hbm, 701, rfl⟩
abbrev main_call0_call2_call0_v154 : Ref sig .tc := ⟨.hbm, 702, rfl⟩
abbrev main_call0_call2_call0_v155 : Ref sig .tc := ⟨.hbm, 703, rfl⟩
abbrev main_call0_call2_call0_v156 : Ref sig .tc := ⟨.hbm, 704, rfl⟩
abbrev main_call0_call2_call0_c_40 : Ref sig .tc := ⟨.hbm, 705, rfl⟩
abbrev main_call0_call2_call0_v157 : Ref sig .tc := ⟨.hbm, 706, rfl⟩
abbrev main_call0_call2_call0_v158 : Ref sig .tc := ⟨.hbm, 707, rfl⟩
abbrev main_call0_call2_call0_c_41 : Ref sig .tc := ⟨.hbm, 708, rfl⟩
abbrev main_call0_call2_call0_v159 : Ref sig .tc := ⟨.hbm, 709, rfl⟩
abbrev main_call0_call2_call0_v160 : Ref sig .tc := ⟨.hbm, 710, rfl⟩
abbrev main_call0_call2_call0_v161 : Ref sig .tc := ⟨.hbm, 711, rfl⟩
abbrev main_call0_call2_call0_v162 : Ref sig .tc := ⟨.hbm, 712, rfl⟩
abbrev main_call0_call2_call0_v163 : Ref sig .tc := ⟨.hbm, 713, rfl⟩
abbrev main_call0_call2_call0_c_42 : Ref sig .tc := ⟨.hbm, 714, rfl⟩
abbrev main_call0_call2_call0_v164 : Ref sig .tc := ⟨.hbm, 715, rfl⟩
abbrev main_call0_call2_call0_v165 : Ref sig .tc := ⟨.hbm, 716, rfl⟩
abbrev main_call0_call2_call0_c_43 : Ref sig .tc := ⟨.hbm, 717, rfl⟩
abbrev main_call0_call2_call0_v166 : Ref sig .tc := ⟨.hbm, 718, rfl⟩
abbrev main_call0_call2_call0_v167 : Ref sig .tc := ⟨.hbm, 719, rfl⟩
abbrev main_call0_call2_call0_v168 : Ref sig .tc := ⟨.hbm, 720, rfl⟩
abbrev main_call0_call2_call0_v169 : Ref sig .tc := ⟨.hbm, 721, rfl⟩
abbrev main_call0_call2_call0_v170 : Ref sig .tc := ⟨.hbm, 722, rfl⟩
abbrev main_call0_call2_v11_0 : Ref sig .tc := ⟨.hbm, 723, rfl⟩
abbrev main_call0_call2_call0_v172 : Ref sig .tc := ⟨.hbm, 724, rfl⟩
abbrev main_call0_call2_call0_v173 : Ref sig .tc := ⟨.hbm, 725, rfl⟩
abbrev main_call0_call2_call0_c_44 : Ref sig .tc := ⟨.hbm, 726, rfl⟩
abbrev main_call0_call2_call0_v174 : Ref sig .tc := ⟨.hbm, 727, rfl⟩
abbrev main_call0_call2_v11_1 : Ref sig .tc := ⟨.hbm, 728, rfl⟩
abbrev main_call0_call2_v12 : Ref sig .tc := ⟨.hbm, 729, rfl⟩
abbrev main_call0_call2_v13 : Ref sig .tc := ⟨.hbm, 730, rfl⟩
abbrev main_call0_v19 : Ref sig .tc := ⟨.hbm, 731, rfl⟩
abbrev main_call0_v20 : Ref sig .tc := ⟨.hbm, 732, rfl⟩
abbrev main_call0_v21 : Ref sig .tc := ⟨.hbm, 733, rfl⟩
abbrev main_call0_v22 : Ref sig .tc := ⟨.hbm, 734, rfl⟩
abbrev main_call0_v23 : Ref sig .tc := ⟨.hbm, 735, rfl⟩
abbrev main_call0_v24 : Ref sig .tc := ⟨.hbm, 736, rfl⟩
abbrev main_call0_v25 : Ref sig .tc := ⟨.hbm, 737, rfl⟩
abbrev main_call0_v26 : Ref sig .tc := ⟨.hbm, 738, rfl⟩
abbrev main_call0_v27 : Ref sig .tc := ⟨.hbm, 739, rfl⟩
abbrev main_call0_v28 : Ref sig .tc := ⟨.hbm, 740, rfl⟩
abbrev main_call0_c_1 : Ref sig .tc := ⟨.hbm, 741, rfl⟩
abbrev main_call0_v29 : Ref sig .tc := ⟨.hbm, 742, rfl⟩
abbrev main_call0_v30 : Ref sig .tc := ⟨.hbm, 743, rfl⟩
abbrev main_call0_c_2 : Ref sig .tc := ⟨.hbm, 744, rfl⟩
abbrev main_call0_v31 : Ref sig .tc := ⟨.hbm, 745, rfl⟩
abbrev main_call0_v32 : Ref sig .tc := ⟨.hbm, 746, rfl⟩
abbrev main_call0_v33 : Ref sig .tc := ⟨.hbm, 747, rfl⟩
abbrev main_call0_v34 : Ref sig .tc := ⟨.hbm, 748, rfl⟩
abbrev main_call0_call3_v0 : Ref sig .tc := ⟨.hbm, 749, rfl⟩
abbrev main_call0_call3_c : Ref sig .tc := ⟨.hbm, 750, rfl⟩
abbrev main_call0_call3_v1 : Ref sig .tc := ⟨.hbm, 751, rfl⟩
abbrev main_call0_call3_v2 : Ref sig .tc := ⟨.hbm, 752, rfl⟩
abbrev main_call0_call3_v3 : Ref sig .tc := ⟨.hbm, 753, rfl⟩
abbrev main_call0_call3_v4 : Ref sig .tc := ⟨.hbm, 754, rfl⟩
abbrev main_call0_call3_v5 : Ref sig .tc := ⟨.hbm, 755, rfl⟩
abbrev main_call0_call3_v6 : Ref sig .tc := ⟨.hbm, 756, rfl⟩
abbrev main_call0_call3_c_0 : Ref sig .tc := ⟨.hbm, 757, rfl⟩
abbrev main_call0_call3_v7 : Ref sig .tc := ⟨.hbm, 758, rfl⟩
abbrev main_call0_call3_v8 : Ref sig .tc := ⟨.hbm, 759, rfl⟩
abbrev main_call0_call3_c_1 : Ref sig .tc := ⟨.hbm, 760, rfl⟩
abbrev main_call0_call3_v9 : Ref sig .tc := ⟨.hbm, 761, rfl⟩
abbrev main_call0_call3_v10 : Ref sig .tc := ⟨.hbm, 762, rfl⟩
abbrev main_call0_call3_v11 : Ref sig .tc := ⟨.hbm, 763, rfl⟩
abbrev main_call0_call3_v12 : Ref sig .tc := ⟨.hbm, 764, rfl⟩
abbrev main_call0_call3_v13 : Ref sig .tc := ⟨.hbm, 765, rfl⟩
abbrev main_call0_call3_c_2 : Ref sig .tc := ⟨.hbm, 766, rfl⟩
abbrev main_call0_call3_v14 : Ref sig .tc := ⟨.hbm, 767, rfl⟩
abbrev main_call0_call3_v15 : Ref sig .tc := ⟨.hbm, 768, rfl⟩
abbrev main_call0_call3_c_3 : Ref sig .tc := ⟨.hbm, 769, rfl⟩
abbrev main_call0_call3_v16 : Ref sig .tc := ⟨.hbm, 770, rfl⟩
abbrev main_call0_call3_v17 : Ref sig .tc := ⟨.hbm, 771, rfl⟩
abbrev main_call0_call3_v18 : Ref sig .tc := ⟨.hbm, 772, rfl⟩
abbrev main_call0_call3_v19 : Ref sig .tc := ⟨.hbm, 773, rfl⟩
abbrev main_call0_call3_v20 : Ref sig .tc := ⟨.hbm, 774, rfl⟩
abbrev main_call0_call3_c_4 : Ref sig .tc := ⟨.hbm, 775, rfl⟩
abbrev main_call0_call3_v21 : Ref sig .tc := ⟨.hbm, 776, rfl⟩
abbrev main_call0_call3_v22 : Ref sig .tc := ⟨.hbm, 777, rfl⟩
abbrev main_call0_call3_c_5 : Ref sig .tc := ⟨.hbm, 778, rfl⟩
abbrev main_call0_call3_v23 : Ref sig .tc := ⟨.hbm, 779, rfl⟩
abbrev main_call0_call3_v24 : Ref sig .tc := ⟨.hbm, 780, rfl⟩
abbrev main_call0_call3_v25 : Ref sig .tc := ⟨.hbm, 781, rfl⟩
abbrev main_call0_call3_v26 : Ref sig .tc := ⟨.hbm, 782, rfl⟩
abbrev main_call0_call3_v27 : Ref sig .tc := ⟨.hbm, 783, rfl⟩
abbrev main_call0_call3_c_6 : Ref sig .tc := ⟨.hbm, 784, rfl⟩
abbrev main_call0_call3_v28 : Ref sig .tc := ⟨.hbm, 785, rfl⟩
abbrev main_call0_call3_v29 : Ref sig .tc := ⟨.hbm, 786, rfl⟩
abbrev main_call0_call3_c_7 : Ref sig .tc := ⟨.hbm, 787, rfl⟩
abbrev main_call0_call3_v30 : Ref sig .tc := ⟨.hbm, 788, rfl⟩
abbrev main_call0_call3_v31 : Ref sig .tc := ⟨.hbm, 789, rfl⟩
abbrev main_call0_call3_v32 : Ref sig .tc := ⟨.hbm, 790, rfl⟩
abbrev main_call0_call3_v33 : Ref sig .tc := ⟨.hbm, 791, rfl⟩
abbrev main_call0_call3_v34 : Ref sig .tc := ⟨.hbm, 792, rfl⟩
abbrev main_call0_call3_v35 : Ref sig .tc := ⟨.hbm, 793, rfl⟩
abbrev main_call0_call3_v36 : Ref sig .tc := ⟨.hbm, 794, rfl⟩
abbrev main_call0_call3_v37 : Ref sig .tc := ⟨.hbm, 795, rfl⟩
abbrev main_call0_call3_c_8 : Ref sig .tc := ⟨.hbm, 796, rfl⟩
abbrev main_call0_call3_v38 : Ref sig .tc := ⟨.hbm, 797, rfl⟩
abbrev main_call0_call3_v39 : Ref sig .tc := ⟨.hbm, 798, rfl⟩
abbrev main_call0_call3_v40 : Ref sig .tc := ⟨.hbm, 799, rfl⟩
abbrev main_call0_call3_c_9 : Ref sig .tc := ⟨.hbm, 800, rfl⟩
abbrev main_call0_call3_v41 : Ref sig .tc := ⟨.hbm, 801, rfl⟩
abbrev main_call0_call3_v42 : Ref sig .tc := ⟨.hbm, 802, rfl⟩
abbrev main_call0_call3_c_10 : Ref sig .tc := ⟨.hbm, 803, rfl⟩
abbrev main_call0_call3_v43 : Ref sig .tc := ⟨.hbm, 804, rfl⟩
abbrev main_call0_call3_v44 : Ref sig .tc := ⟨.hbm, 805, rfl⟩
abbrev main_call0_call3_v45 : Ref sig .tc := ⟨.hbm, 806, rfl⟩
abbrev main_call0_call3_v46 : Ref sig .tc := ⟨.hbm, 807, rfl⟩
abbrev main_call0_call3_v47 : Ref sig .tc := ⟨.hbm, 808, rfl⟩
abbrev main_call0_call3_c_11 : Ref sig .tc := ⟨.hbm, 809, rfl⟩
abbrev main_call0_call3_v48 : Ref sig .tc := ⟨.hbm, 810, rfl⟩
abbrev main_call0_call3_v49 : Ref sig .tc := ⟨.hbm, 811, rfl⟩
abbrev main_call0_call3_c_12 : Ref sig .tc := ⟨.hbm, 812, rfl⟩
abbrev main_call0_call3_v50 : Ref sig .tc := ⟨.hbm, 813, rfl⟩
abbrev main_call0_call3_v51 : Ref sig .tc := ⟨.hbm, 814, rfl⟩
abbrev main_call0_call3_v52 : Ref sig .tc := ⟨.hbm, 815, rfl⟩
abbrev main_call0_call3_v53 : Ref sig .tc := ⟨.hbm, 816, rfl⟩
abbrev main_call0_call3_v54 : Ref sig .tc := ⟨.hbm, 817, rfl⟩
abbrev main_call0_call3_c_13 : Ref sig .tc := ⟨.hbm, 818, rfl⟩
abbrev main_call0_call3_v55 : Ref sig .tc := ⟨.hbm, 819, rfl⟩
abbrev main_call0_call3_v56 : Ref sig .tc := ⟨.hbm, 820, rfl⟩
abbrev main_call0_call3_c_14 : Ref sig .tc := ⟨.hbm, 821, rfl⟩
abbrev main_call0_call3_v57 : Ref sig .tc := ⟨.hbm, 822, rfl⟩
abbrev main_call0_call3_v58 : Ref sig .tc := ⟨.hbm, 823, rfl⟩
abbrev main_call0_call3_v59 : Ref sig .tc := ⟨.hbm, 824, rfl⟩
abbrev main_call0_call3_v60 : Ref sig .tc := ⟨.hbm, 825, rfl⟩
abbrev main_call0_call3_v61 : Ref sig .tc := ⟨.hbm, 826, rfl⟩
abbrev main_call0_call3_c_15 : Ref sig .tc := ⟨.hbm, 827, rfl⟩
abbrev main_call0_call3_v62 : Ref sig .tc := ⟨.hbm, 828, rfl⟩
abbrev main_call0_call3_v63 : Ref sig .tc := ⟨.hbm, 829, rfl⟩
abbrev main_call0_call3_c_16 : Ref sig .tc := ⟨.hbm, 830, rfl⟩
abbrev main_call0_call3_v64 : Ref sig .tc := ⟨.hbm, 831, rfl⟩
abbrev main_call0_call3_v65 : Ref sig .tc := ⟨.hbm, 832, rfl⟩
abbrev main_call0_call3_v66 : Ref sig .tc := ⟨.hbm, 833, rfl⟩
abbrev main_call0_call3_v67 : Ref sig .tc := ⟨.hbm, 834, rfl⟩
abbrev main_call0_call3_v68 : Ref sig .tc := ⟨.hbm, 835, rfl⟩
abbrev main_call0_call3_v69 : Ref sig .tc := ⟨.hbm, 836, rfl⟩
abbrev main_call0_call3_v70 : Ref sig .tc := ⟨.hbm, 837, rfl⟩
abbrev main_call0_call3_v71 : Ref sig .tc := ⟨.hbm, 838, rfl⟩
abbrev main_call0_call3_c_17 : Ref sig .tc := ⟨.hbm, 839, rfl⟩
abbrev main_call0_call3_v72 : Ref sig .tc := ⟨.hbm, 840, rfl⟩
abbrev main_call0_call3_v73 : Ref sig .tc := ⟨.hbm, 841, rfl⟩
abbrev main_call0_call3_v74 : Ref sig .tc := ⟨.hbm, 842, rfl⟩
abbrev main_call0_call3_c_18 : Ref sig .tc := ⟨.hbm, 843, rfl⟩
abbrev main_call0_call3_v75 : Ref sig .tc := ⟨.hbm, 844, rfl⟩
abbrev main_call0_call3_v76 : Ref sig .tc := ⟨.hbm, 845, rfl⟩
abbrev main_call0_call3_c_19 : Ref sig .tc := ⟨.hbm, 846, rfl⟩
abbrev main_call0_call3_v77 : Ref sig .tc := ⟨.hbm, 847, rfl⟩
abbrev main_call0_call3_v78 : Ref sig .tc := ⟨.hbm, 848, rfl⟩
abbrev main_call0_call3_v79 : Ref sig .tc := ⟨.hbm, 849, rfl⟩
abbrev main_call0_call3_v80 : Ref sig .tc := ⟨.hbm, 850, rfl⟩
abbrev main_call0_call3_v81 : Ref sig .tc := ⟨.hbm, 851, rfl⟩
abbrev main_call0_call3_c_20 : Ref sig .tc := ⟨.hbm, 852, rfl⟩
abbrev main_call0_call3_v82 : Ref sig .tc := ⟨.hbm, 853, rfl⟩
abbrev main_call0_call3_v83 : Ref sig .tc := ⟨.hbm, 854, rfl⟩
abbrev main_call0_call3_c_21 : Ref sig .tc := ⟨.hbm, 855, rfl⟩
abbrev main_call0_call3_v84 : Ref sig .tc := ⟨.hbm, 856, rfl⟩
abbrev main_call0_call3_v85 : Ref sig .tc := ⟨.hbm, 857, rfl⟩
abbrev main_call0_call3_v86 : Ref sig .tc := ⟨.hbm, 858, rfl⟩
abbrev main_call0_call3_v87 : Ref sig .tc := ⟨.hbm, 859, rfl⟩
abbrev main_call0_call3_v88 : Ref sig .tc := ⟨.hbm, 860, rfl⟩
abbrev main_call0_call3_c_22 : Ref sig .tc := ⟨.hbm, 861, rfl⟩
abbrev main_call0_call3_v89 : Ref sig .tc := ⟨.hbm, 862, rfl⟩
abbrev main_call0_call3_v90 : Ref sig .tc := ⟨.hbm, 863, rfl⟩
abbrev main_call0_call3_c_23 : Ref sig .tc := ⟨.hbm, 864, rfl⟩
abbrev main_call0_call3_v91 : Ref sig .tc := ⟨.hbm, 865, rfl⟩
abbrev main_call0_call3_v92 : Ref sig .tc := ⟨.hbm, 866, rfl⟩
abbrev main_call0_call3_v93 : Ref sig .tc := ⟨.hbm, 867, rfl⟩
abbrev main_call0_call3_v94 : Ref sig .tc := ⟨.hbm, 868, rfl⟩
abbrev main_call0_call3_v95 : Ref sig .tc := ⟨.hbm, 869, rfl⟩
abbrev main_call0_call3_c_24 : Ref sig .tc := ⟨.hbm, 870, rfl⟩
abbrev main_call0_call3_v96 : Ref sig .tc := ⟨.hbm, 871, rfl⟩
abbrev main_call0_call3_v97 : Ref sig .tc := ⟨.hbm, 872, rfl⟩
abbrev main_call0_call3_c_25 : Ref sig .tc := ⟨.hbm, 873, rfl⟩
abbrev main_call0_call3_v98 : Ref sig .tc := ⟨.hbm, 874, rfl⟩
abbrev main_call0_call3_v99 : Ref sig .tc := ⟨.hbm, 875, rfl⟩
abbrev main_call0_call3_v100 : Ref sig .tc := ⟨.hbm, 876, rfl⟩
abbrev main_call0_call3_v101 : Ref sig .tc := ⟨.hbm, 877, rfl⟩
abbrev main_call0_call3_v102 : Ref sig .tc := ⟨.hbm, 878, rfl⟩
abbrev main_call0_call3_v103 : Ref sig .tc := ⟨.hbm, 879, rfl⟩
abbrev main_call0_call3_v104 : Ref sig .tc := ⟨.hbm, 880, rfl⟩
abbrev main_call0_call3_v105 : Ref sig .tc := ⟨.hbm, 881, rfl⟩
abbrev main_call0_call3_c_26 : Ref sig .tc := ⟨.hbm, 882, rfl⟩
abbrev main_call0_call3_v106 : Ref sig .tc := ⟨.hbm, 883, rfl⟩
abbrev main_call0_call3_v107 : Ref sig .tc := ⟨.hbm, 884, rfl⟩
abbrev main_call0_call3_v108 : Ref sig .tc := ⟨.hbm, 885, rfl⟩
abbrev main_call0_call3_c_27 : Ref sig .tc := ⟨.hbm, 886, rfl⟩
abbrev main_call0_call3_v109 : Ref sig .tc := ⟨.hbm, 887, rfl⟩
abbrev main_call0_call3_v110 : Ref sig .tc := ⟨.hbm, 888, rfl⟩
abbrev main_call0_call3_c_28 : Ref sig .tc := ⟨.hbm, 889, rfl⟩
abbrev main_call0_call3_v111 : Ref sig .tc := ⟨.hbm, 890, rfl⟩
abbrev main_call0_call3_v112 : Ref sig .tc := ⟨.hbm, 891, rfl⟩
abbrev main_call0_call3_v113 : Ref sig .tc := ⟨.hbm, 892, rfl⟩
abbrev main_call0_call3_v114 : Ref sig .tc := ⟨.hbm, 893, rfl⟩
abbrev main_call0_call3_v115 : Ref sig .tc := ⟨.hbm, 894, rfl⟩
abbrev main_call0_call3_c_29 : Ref sig .tc := ⟨.hbm, 895, rfl⟩
abbrev main_call0_call3_v116 : Ref sig .tc := ⟨.hbm, 896, rfl⟩
abbrev main_call0_call3_v117 : Ref sig .tc := ⟨.hbm, 897, rfl⟩
abbrev main_call0_call3_c_30 : Ref sig .tc := ⟨.hbm, 898, rfl⟩
abbrev main_call0_call3_v118 : Ref sig .tc := ⟨.hbm, 899, rfl⟩
abbrev main_call0_call3_v119 : Ref sig .tc := ⟨.hbm, 900, rfl⟩
abbrev main_call0_call3_v120 : Ref sig .tc := ⟨.hbm, 901, rfl⟩
abbrev main_call0_call3_v121 : Ref sig .tc := ⟨.hbm, 902, rfl⟩
abbrev main_call0_call3_v122 : Ref sig .tc := ⟨.hbm, 903, rfl⟩
abbrev main_call0_call3_c_31 : Ref sig .tc := ⟨.hbm, 904, rfl⟩
abbrev main_call0_call3_v123 : Ref sig .tc := ⟨.hbm, 905, rfl⟩
abbrev main_call0_call3_v124 : Ref sig .tc := ⟨.hbm, 906, rfl⟩
abbrev main_call0_call3_c_32 : Ref sig .tc := ⟨.hbm, 907, rfl⟩
abbrev main_call0_call3_v125 : Ref sig .tc := ⟨.hbm, 908, rfl⟩
abbrev main_call0_call3_v126 : Ref sig .tc := ⟨.hbm, 909, rfl⟩
abbrev main_call0_call3_v127 : Ref sig .tc := ⟨.hbm, 910, rfl⟩
abbrev main_call0_call3_v128 : Ref sig .tc := ⟨.hbm, 911, rfl⟩
abbrev main_call0_call3_v129 : Ref sig .tc := ⟨.hbm, 912, rfl⟩
abbrev main_call0_call3_c_33 : Ref sig .tc := ⟨.hbm, 913, rfl⟩
abbrev main_call0_call3_v130 : Ref sig .tc := ⟨.hbm, 914, rfl⟩
abbrev main_call0_call3_v131 : Ref sig .tc := ⟨.hbm, 915, rfl⟩
abbrev main_call0_call3_c_34 : Ref sig .tc := ⟨.hbm, 916, rfl⟩
abbrev main_call0_call3_v132 : Ref sig .tc := ⟨.hbm, 917, rfl⟩
abbrev main_call0_call3_v133 : Ref sig .tc := ⟨.hbm, 918, rfl⟩
abbrev main_call0_call3_v134 : Ref sig .tc := ⟨.hbm, 919, rfl⟩
abbrev main_call0_call3_v135 : Ref sig .tc := ⟨.hbm, 920, rfl⟩
abbrev main_call0_call3_v136 : Ref sig .tc := ⟨.hbm, 921, rfl⟩
abbrev main_call0_call3_v137 : Ref sig .tc := ⟨.hbm, 922, rfl⟩
abbrev main_call0_call3_v138 : Ref sig .tc := ⟨.hbm, 923, rfl⟩
abbrev main_call0_call3_v139 : Ref sig .tc := ⟨.hbm, 924, rfl⟩
abbrev main_call0_call3_c_35 : Ref sig .tc := ⟨.hbm, 925, rfl⟩
abbrev main_call0_call3_v140 : Ref sig .tc := ⟨.hbm, 926, rfl⟩
abbrev main_call0_call3_v141 : Ref sig .tc := ⟨.hbm, 927, rfl⟩
abbrev main_call0_call3_v142 : Ref sig .tc := ⟨.hbm, 928, rfl⟩
abbrev main_call0_call3_c_36 : Ref sig .tc := ⟨.hbm, 929, rfl⟩
abbrev main_call0_call3_v143 : Ref sig .tc := ⟨.hbm, 930, rfl⟩
abbrev main_call0_call3_v144 : Ref sig .tc := ⟨.hbm, 931, rfl⟩
abbrev main_call0_call3_c_37 : Ref sig .tc := ⟨.hbm, 932, rfl⟩
abbrev main_call0_call3_v145 : Ref sig .tc := ⟨.hbm, 933, rfl⟩
abbrev main_call0_call3_v146 : Ref sig .tc := ⟨.hbm, 934, rfl⟩
abbrev main_call0_call3_v147 : Ref sig .tc := ⟨.hbm, 935, rfl⟩
abbrev main_call0_call3_v148 : Ref sig .tc := ⟨.hbm, 936, rfl⟩
abbrev main_call0_call3_v149 : Ref sig .tc := ⟨.hbm, 937, rfl⟩
abbrev main_call0_call3_c_38 : Ref sig .tc := ⟨.hbm, 938, rfl⟩
abbrev main_call0_call3_v150 : Ref sig .tc := ⟨.hbm, 939, rfl⟩
abbrev main_call0_call3_v151 : Ref sig .tc := ⟨.hbm, 940, rfl⟩
abbrev main_call0_call3_c_39 : Ref sig .tc := ⟨.hbm, 941, rfl⟩
abbrev main_call0_call3_v152 : Ref sig .tc := ⟨.hbm, 942, rfl⟩
abbrev main_call0_call3_v153 : Ref sig .tc := ⟨.hbm, 943, rfl⟩
abbrev main_call0_call3_v154 : Ref sig .tc := ⟨.hbm, 944, rfl⟩
abbrev main_call0_call3_v155 : Ref sig .tc := ⟨.hbm, 945, rfl⟩
abbrev main_call0_call3_v156 : Ref sig .tc := ⟨.hbm, 946, rfl⟩
abbrev main_call0_call3_c_40 : Ref sig .tc := ⟨.hbm, 947, rfl⟩
abbrev main_call0_call3_v157 : Ref sig .tc := ⟨.hbm, 948, rfl⟩
abbrev main_call0_call3_v158 : Ref sig .tc := ⟨.hbm, 949, rfl⟩
abbrev main_call0_call3_c_41 : Ref sig .tc := ⟨.hbm, 950, rfl⟩
abbrev main_call0_call3_v159 : Ref sig .tc := ⟨.hbm, 951, rfl⟩
abbrev main_call0_call3_v160 : Ref sig .tc := ⟨.hbm, 952, rfl⟩
abbrev main_call0_call3_v161 : Ref sig .tc := ⟨.hbm, 953, rfl⟩
abbrev main_call0_call3_v162 : Ref sig .tc := ⟨.hbm, 954, rfl⟩
abbrev main_call0_call3_v163 : Ref sig .tc := ⟨.hbm, 955, rfl⟩
abbrev main_call0_call3_c_42 : Ref sig .tc := ⟨.hbm, 956, rfl⟩
abbrev main_call0_call3_v164 : Ref sig .tc := ⟨.hbm, 957, rfl⟩
abbrev main_call0_call3_v165 : Ref sig .tc := ⟨.hbm, 958, rfl⟩
abbrev main_call0_call3_c_43 : Ref sig .tc := ⟨.hbm, 959, rfl⟩
abbrev main_call0_call3_v166 : Ref sig .tc := ⟨.hbm, 960, rfl⟩
abbrev main_call0_call3_v167 : Ref sig .tc := ⟨.hbm, 961, rfl⟩
abbrev main_call0_call3_v168 : Ref sig .tc := ⟨.hbm, 962, rfl⟩
abbrev main_call0_call3_v169 : Ref sig .tc := ⟨.hbm, 963, rfl⟩
abbrev main_call0_call3_v170 : Ref sig .tc := ⟨.hbm, 964, rfl⟩
abbrev main_call0_v35_0 : Ref sig .tc := ⟨.hbm, 965, rfl⟩
abbrev main_call0_call3_v172 : Ref sig .tc := ⟨.hbm, 966, rfl⟩
abbrev main_call0_call3_v173 : Ref sig .tc := ⟨.hbm, 967, rfl⟩
abbrev main_call0_call3_c_44 : Ref sig .tc := ⟨.hbm, 968, rfl⟩
abbrev main_call0_call3_v174 : Ref sig .tc := ⟨.hbm, 969, rfl⟩
abbrev main_call0_v35_1 : Ref sig .tc := ⟨.hbm, 970, rfl⟩
abbrev main_call0_v36 : Ref sig .tc := ⟨.hbm, 971, rfl⟩
abbrev main_call0_v37_0 : Ref sig .tc := ⟨.hbm, 972, rfl⟩
abbrev main_v8 : Ref sig .tc := ⟨.hbm, 973, rfl⟩
abbrev main_v9 : Ref sig .tc := ⟨.hbm, 974, rfl⟩
abbrev main_call1_c : Ref sig .tc := ⟨.hbm, 975, rfl⟩
abbrev main_call1_v0 : Ref sig .tc := ⟨.hbm, 976, rfl⟩
abbrev main_call1_v1 : Ref sig .tc := ⟨.hbm, 977, rfl⟩
abbrev main_call1_c_0 : Ref sig .tc := ⟨.hbm, 978, rfl⟩
abbrev main_call1_v2 : Ref sig .tc := ⟨.hbm, 979, rfl⟩
abbrev main_call1_v3 : Ref sig .tc := ⟨.hbm, 980, rfl⟩
abbrev main_call1_v4 : Ref sig .tc := ⟨.hbm, 981, rfl⟩
abbrev main_call1_v5 : Ref sig .tc := ⟨.hbm, 982, rfl⟩
abbrev main_call1_c_1 : Ref sig .tc := ⟨.hbm, 983, rfl⟩
abbrev main_call1_c_2 : Ref sig .tc := ⟨.hbm, 984, rfl⟩
abbrev main_call1_v6 : Ref sig .tc := ⟨.hbm, 985, rfl⟩
abbrev main_call1_v7 : Ref sig .tc := ⟨.hbm, 986, rfl⟩
abbrev main_call1_v8 : Ref sig .tc := ⟨.hbm, 987, rfl⟩
abbrev main_call1_v9 : Ref sig .tc := ⟨.hbm, 988, rfl⟩
abbrev main_call1_v10 : Ref sig .tc := ⟨.hbm, 989, rfl⟩
abbrev main_call1_v11 : Ref sig .tc := ⟨.hbm, 990, rfl⟩
abbrev main_call1_c_3 : Ref sig .tc := ⟨.hbm, 991, rfl⟩
abbrev main_call1_v12 : Ref sig .tc := ⟨.hbm, 992, rfl⟩
abbrev main_call1_v13 : Ref sig .tc := ⟨.hbm, 993, rfl⟩
abbrev main_call1_v14 : Ref sig .tc := ⟨.hbm, 994, rfl⟩
abbrev main_call1_cst : Ref sig .tc := ⟨.hbm, 995, rfl⟩
abbrev main_call1_v15 : Ref sig .tc := ⟨.hbm, 996, rfl⟩
abbrev main_v10 : Ref sig .tc := ⟨.hbm, 997, rfl⟩
abbrev main_v11 : Ref sig .tc := ⟨.hbm, 998, rfl⟩
abbrev main_v12 : Ref sig .tc := ⟨.hbm, 999, rfl⟩
abbrev main_v13 : Ref sig .tc := ⟨.hbm, 1000, rfl⟩
abbrev main_v14 : Ref sig .tc := ⟨.hbm, 1001, rfl⟩
abbrev main_v15 : Ref sig .tc := ⟨.hbm, 1002, rfl⟩
abbrev main_c_2 : Ref sig .tc := ⟨.hbm, 1003, rfl⟩
abbrev main_v16 : Ref sig .tc := ⟨.hbm, 1004, rfl⟩
abbrev main_v17 : Ref sig .tc := ⟨.hbm, 1005, rfl⟩
abbrev main_c_3 : Ref sig .tc := ⟨.hbm, 1006, rfl⟩
abbrev main_v18 : Ref sig .tc := ⟨.hbm, 1007, rfl⟩
abbrev main_v19 : Ref sig .tc := ⟨.hbm, 1008, rfl⟩
abbrev main_v20 : Ref sig .tc := ⟨.hbm, 1009, rfl⟩
abbrev main_v21 : Ref sig .tc := ⟨.hbm, 1010, rfl⟩
abbrev main_v22 : Ref sig .tc := ⟨.hbm, 1011, rfl⟩
abbrev main_c_4 : Ref sig .tc := ⟨.hbm, 1012, rfl⟩
abbrev main_v23 : Ref sig .tc := ⟨.hbm, 1013, rfl⟩
abbrev main_c_5 : Ref sig .tc := ⟨.hbm, 1014, rfl⟩
abbrev main_v24 : Ref sig .tc := ⟨.hbm, 1015, rfl⟩
abbrev main_v25 : Ref sig .tc := ⟨.hbm, 1016, rfl⟩
abbrev main_c_6 : Ref sig .tc := ⟨.hbm, 1017, rfl⟩
abbrev main_v26 : Ref sig .tc := ⟨.hbm, 1018, rfl⟩
abbrev main_v27 : Ref sig .tc := ⟨.hbm, 1019, rfl⟩
abbrev main_v28 : Ref sig .tc := ⟨.hbm, 1020, rfl⟩
abbrev main_v29 : Ref sig .tc := ⟨.hbm, 1021, rfl⟩
abbrev main_c_7 : Ref sig .tc := ⟨.hbm, 1022, rfl⟩
abbrev main_v30 : Ref sig .tc := ⟨.hbm, 1023, rfl⟩
abbrev main_v31 : Ref sig .tc := ⟨.hbm, 1024, rfl⟩

abbrev nD : Nat := 1
abbrev τ : Topo := Topo.v7x

variable {F : FTy → Type} [FloatOps F]
-- ==== Proof.Kernel.Block.lean ====
/-
  What one grid point leaves in its block of the output, entry by entry: where the mask is one, the row times the
  weights plus the bias; where the mask is zero, the row as it came in.
-/
module

public import proofs.«01_k».proof.Proof.Gen.KernelIdeal.Frame
public import Idealize.ShloMosaic.Lib.Pipeline.Value
public import Idealize.ShloMosaic.Lib.MatmulPlain
public import Idealize.ShloMosaic.Lib.IdealHost
public import Idealize.ShloMosaic.Lib.WordCmp
public import Idealize.ShloMosaic.Lib.ValueIdx

@[expose] public section

noncomputable section

namespace Cert.KernelSide

open Cert.KernelIdeal Cert.KernelIdeal.Gen
open Idealize.ShloMosaic Idealize.ShloMosaic.TcCoe Idealize.ShloMosaic.ValueIdx

/-- The offsets of a load or a store of a whole matrix are zero. -/
theorem zero_offsets : (![0, 0] : Fin 2 → Nat) = fun _ => 0 := funext fun a => by match a with | ⟨0, _⟩ => rfl | ⟨1, _⟩ => rfl

/-- The offsets of the load of the whole mask block are zero. -/
theorem zero_offsets3 : (![0, 0, 0] : Fin 3 → Nat) = fun _ => 0 := funext fun a => by match a with | ⟨0, _⟩ => rfl | ⟨1, _⟩ => rfl | ⟨2, _⟩ => rfl

variable (x : Vec Ideal S8000x64 .f32) (l : Vec Ideal S1x1x8000 .f32) (w : Vec Ideal S64x64 .f32) (b : Vec Ideal S1x64 .f32)

/-- The block left by a grid point is the stored value of the four blocks it loads. -/
theorem out_eq : out0_4 x l w b = k0_pay1 x w b l := by
  unfold out0_4
  rw [View.canon_unit_zero zero_offsets, View.ld_unit_zero zero_offsets, View.ld_unit_zero zero_offsets, View.ld_unit_zero zero_offsets,
    View.ld_unit_zero zero_offsets3]

/-- The mask of row `r`, moved from the lane it is loaded in to the row it is compared in. -/
theorem mask_entry (r : Fin 8000) (h : S1x1x8000.ShapeCasts S1x8000) (h' : S1x8000.Transposes [1, 0] S8000x1) :
    transpose S8000x1 [1, 0] (shapeCast S1x8000 l h) h' (ix2 r (0 : Fin 1)) = l (ix3 (0 : Fin 1) (0 : Fin 1) r) := by
  rw [transpose_apply [1, 0] (shapeCast S1x8000 l h) h' (ix2 r (0 : Fin 1)) (ix2 (0 : Fin 1) r) fun a => by match a with | ⟨0, _⟩ => rfl | ⟨1, _⟩ => rfl]
  refine shapeCast_apply l h _ _ ?_
  rw [Shape.rowMajor_val_three, Shape.rowMajor_val_two]
  show (0 * 1 + 0) * 8000 + r.val = 0 * 8000 + r.val
  omega

/-- An entry of the block: the product row plus the bias or the row itself, as the mask of the row is above zero or not. -/
theorem out_entry (r : Fin 8000) (j : Fin 64) : out0_4 x l w b (ix2 r j)
    = Scalar.select (Scalar.cmpf (F := Ideal) (φ := .f32) .ogt (l (ix3 (0 : Fin 1) (0 : Fin 1) r)) 0)
        ((∑ k : Fin 64, x (ix2 r k) * w (ix2 k j)) + b (ix2 (0 : Fin 1) j)) (x (ix2 r j)) := by
  rw [out_eq]
  unfold k0_pay1
  rw [shapeCast_self, shapeCast_self, shapeCast_self]
  unfold select
  rw [addf_apply]
  refine congr (congrArg₂ Scalar.select ?_ ?_) rfl
  · rw [broadcastTo_apply _ _ (ix2 r j) (ix2 r (0 : Fin 1)) fun a => by match a with | ⟨0, _⟩ => rfl | ⟨1, _⟩ => rfl]
    unfold cmpf
    rw [mask_entry, broadcast]
    exact congrArg _ Ideal.ofBits_zero_f32
  · refine congrArg₂ (· + ·) ?_ (broadcastTo_apply _ _ (ix2 r j) (ix2 (0 : Fin 1) j) fun a => by match a with | ⟨0, _⟩ => rfl | ⟨1, _⟩ => rfl)
    refine (Ideal.matmul_plain_apply none x w _ r j).trans ?_
    rw [constant_apply, Ideal.ofBits_zero_f32, zero_add]

/-- Where the mask is one, the row times the weights, plus the bias. -/
theorem out_chosen (r : Fin 8000) (j : Fin 64) (h : l (ix3 (0 : Fin 1) (0 : Fin 1) r) = (1 : EReal)) :
    out0_4 x l w b (ix2 r j) = (∑ k : Fin 64, x (ix2 r k) * w (ix2 k j)) + b (ix2 (0 : Fin 1) j) := by
  have e : Scalar.cmpf (F := Ideal) (φ := .f32) .ogt (1 : EReal) 0 = 1#1 := by
    show BitVec.ofBool (decide ((0 : EReal) < 1)) = 1#1
    rw [decide_eq_true zero_lt_one]; rfl
  rw [out_entry, h, e]
  rfl

/-- Where the mask is zero, the row as it came in. -/
theorem out_other (r : Fin 8000) (j : Fin 64) (h : l (ix3 (0 : Fin 1) (0 : Fin 1) r) = (0 : EReal)) : out0_4 x l w b (ix2 r j) = x (ix2 r j) := by
  have e : Scalar.cmpf (F := Ideal) (φ := .f32) .ogt (0 : EReal) 0 = 0#1 := by
    show BitVec.ofBool (decide ((0 : EReal) < 0)) = 0#1
    rw [decide_eq_false (lt_irrefl _)]; rfl
  rw [out_entry, h, e]
  rfl

end Cert.KernelSide

end
-- ==== Proof.Reference.Line.lean ====
/-
  The reference program as one straight line of operations: those before the call of `_shuffle`, the call's, and those
  after it; and what the last stretch leaves in the two results, as functions of the arguments and of the permutation
  that `_shuffle` returned.
-/
module

public import proofs.«01_k».proof.Proof.Gen.ReferenceIdeal
public import Idealize.ShloMosaic.Lib.StableHlo.RunHlo
public import Idealize.ShloMosaic.Lib.Pipeline.Regions
public import Idealize.ShloMosaic.PureOps.Ideal

@[expose] public section

set_option maxRecDepth 12196

noncomputable section

namespace Cert.Reference

open Cert.ReferenceIdeal Cert.ReferenceIdeal.Facts₀
open Idealize.ShloMosaic Idealize.ShloMosaic.TcCoe Idealize.ShloMosaic.StableHlo Idealize.SL.Sem

variable {F : FTy → Type} [FloatOps F]

/-! ## The values -/

/-- The chosen rows, one index word each: the permutation's first 100000 entries, a negative one wrapped by 1000000. -/
def starts (P : IVec S1000000 32) : IVec S100000x1 32 :=
  let s : IVec S100000 32 := extractStridedSlice S100000 ![0] P slices_S1000000_S100000_0
  broadcastInDim S100000x1 ![0] bcast_S100000_S100000x1_0
    (select (cmpi .slt s (broadcastInDim S100000 ![] bcast_S_S100000 (constantI S_ 32 0#32)))
      (addi s (broadcastInDim S100000 ![] bcast_S_S100000 (constantI S_ 32 1000000#32))) s)

/-- The labels: true at the chosen rows, false elsewhere. -/
def labels (P : IVec S1000000 32) : IVec S1000000 1 :=
  Host.scatter scatter_S1000000_S100000x1_S100000_n_0_0_1 (fun _ b => b)
    (broadcastInDim S1000000 ![] bcast_S_S1000000 (constantI S_ 1 0#1)) (starts P)
    (broadcastInDim S100000 ![] bcast_S_S100000 (constantI S_ 1 1#1))

/-- Whether an index word is a row's number: at least 0 and at most 999999. -/
def inRange (i : IVec S100000x1 32) : IVec S100000 1 :=
  Host.reduce IntOp.andi (andi (cmpi .sge i (broadcastInDim S100000x1 ![] bcast_S_S100000x1 (constantI S_ 32 0#32)))
      (cmpi .sle i (broadcastInDim S100000x1 ![0, 1] bcast_S1x1_S100000x1_0_1 (broadcastInDim S1x1 ![1] bcast_S1_S1x1_1 (constantI S1 32 999999#32)))))
    (constantI S_ 1 1#1) reducesTo_S100000x1_S100000_d1 h_S_

/-- The rows of `x` at the index words, a fill value where the word is no row's number. -/
def taken (x : FVec F S1000000x64 .f32) (i : IVec S100000x1 32) : FVec F S100000x64 .f32 :=
  select (broadcastInDim S100000x64 ![0] bcast_S100000_S100000x64_0 (inRange i))
    (Host.gather gather_S1000000x64_S100000x1_S100000x64_1_0_n_n_0_1_164 x i)
    (broadcastInDim S100000x64 ![] bcast_S_S100000x64 (constant S_ .f32 0x7FC00000#32))

/-- Rows times the transposed weights, plus the bias. -/
def affine (r : FVec F S100000x64 .f32) (w : FVec F S64x64 .f32) (b : FVec F S64 .f32) : FVec F S100000x64 .f32 :=
  addf (Host.dotGeneral dot_S100000x64_S64x64_S100000x64_1_0_0_1_n_n none r (transpose S64x64 [1, 0] w transposes_S64x64_S64x64_1_0))
    (broadcastInDim S100000x64 ![0, 1] bcast_S1x64_S100000x64_0_1 (broadcastInDim S1x64 ![1] bcast_S64_S1x64_1 b))

/-- The first result: `x` with the chosen rows replaced. -/
def replaced (x : FVec F S1000000x64 .f32) (w : FVec F S64x64 .f32) (b : FVec F S64 .f32) (P : IVec S1000000 32) : FVec F S1000000x64 .f32 :=
  Host.scatter scatter_S1000000x64_S100000x1_S100000x64_1_0_0_1 (fun _ b => b) x (starts P) (affine (taken x (starts P)) w b)

/-! ## The line -/

/-- The operations before the call of `_shuffle`. -/
abbrev before : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    nullary main_v7 (iotaInDim S1000000 32 0) ]

/-- The operations after it. -/
abbrev behind : List (HloOp τ sig (Elt F)) :=
  [ unary main_v8 main_v9 ((extractStridedSlice S100000 ![0] · slices_S1000000_S100000_0) : (⟨S1000000, .i32⟩ : BufTy).Contents (Elt F) → (⟨S100000, .i32⟩ : BufTy).Contents (Elt F)),
    nullary main_call1_c (constantI S_ 32 0#32),
    unary main_call1_c main_call1_v0 ((broadcastInDim S100000 ![] bcast_S_S100000) : (⟨S_, .i32⟩ : BufTy).Contents (Elt F) → (⟨S100000, .i32⟩ : BufTy).Contents (Elt F)),
    binary main_v9 main_call1_v0 main_call1_v1 ((cmpi .slt) : (⟨S100000, .i32⟩ : BufTy).Contents (Elt F) → (⟨S100000, .i32⟩ : BufTy).Contents (Elt F) → (⟨S100000, .i1⟩ : BufTy).Contents (Elt F)),
    nullary main_call1_c_0 (constantI S_ 32 1000000#32),
    unary main_call1_c_0 main_call1_v2 ((broadcastInDim S100000 ![] bcast_S_S100000) : (⟨S_, .i32⟩ : BufTy).Contents (Elt F) → (⟨S100000, .i32⟩ : BufTy).Contents (Elt F)),
    binary main_v9 main_call1_v2 main_call1_v3 (addi : (⟨S100000, .i32⟩ : BufTy).Contents (Elt F) → (⟨S100000, .i32⟩ : BufTy).Contents (Elt F) → (⟨S100000, .i32⟩ : BufTy).Contents (Elt F)),
    ternary main_call1_v1 main_call1_v3 main_v9 main_call1_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_call1_v4 main_call1_v5 ((broadcastInDim S100000x1 ![0] bcast_S100000_S100000x1_0) : (⟨S100000, .i32⟩ : BufTy).Contents (Elt F) → (⟨S100000x1, .i32⟩ : BufTy).Contents (Elt F)),
    nullary main_call1_c_1 (constantI S1 32 999999#32),
    nullary main_call1_c_2 (constantI S_ 32 0#32),
    unary main_call1_c_2 main_call1_v6 ((broadcastInDim S100000x1 ![] bcast_S_S100000x1) : (⟨S_, .i32⟩ : BufTy).Contents (Elt F) → (⟨S100000x1, .i32⟩ : BufTy).Contents (Elt F)),
    binary main_call1_v5 main_call1_v6 main_call1_v7 ((cmpi .sge) : (⟨S100000x1, .i32⟩ : BufTy).Contents (Elt F) → (⟨S100000x1, .i32⟩ : BufTy).Contents (Elt F) → (⟨S100000x1, .i1⟩ : BufTy).Contents (Elt F)),
    unary main_call1_c_1 main_call1_v8 ((broadcastInDim S1x1 ![1] bcast_S1_S1x1_1) : (⟨S1, .i32⟩ : BufTy).Contents (Elt F) → (⟨S1x1, .i32⟩ : BufTy).Contents (Elt F)),
    unary main_call1_v8 main_call1_v9 ((broadcastInDim S100000x1 ![0, 1] bcast_S1x1_S100000x1_0_1) : (⟨S1x1, .i32⟩ : BufTy).Contents (Elt F) → (⟨S100000x1, .i32⟩ : BufTy).Contents (Elt F)),
    binary main_call1_v5 main_call1_v9 main_call1_v10 ((cmpi .sle) : (⟨S100000x1, .i32⟩ : BufTy).Contents (Elt F) → (⟨S100000x1, .i32⟩ : BufTy).Contents (Elt F) → (⟨S100000x1, .i1⟩ : BufTy).Contents (Elt F)),
    binary main_call1_v7 main_call1_v10 main_call1_v11 (andi : (⟨S100000x1, .i1⟩ : BufTy).Contents (Elt F) → (⟨S100000x1, .i1⟩ : BufTy).Contents (Elt F) → (⟨S100000x1, .i1⟩ : BufTy).Contents (Elt F)),
    nullary main_call1_c_3 (constantI S_ 1 1#1),
    binary main_call1_v11 main_call1_c_3 main_call1_v12 ((fun x v => Host.reduce IntOp.andi x v reducesTo_S100000x1_S100000_d1 h_S_) : (⟨S100000x1, .i1⟩ : BufTy).Contents (Elt F) → (⟨S_, .i1⟩ : BufTy).Contents (Elt F) → (⟨S100000, .i1⟩ : BufTy).Contents (Elt F)),
    binary main_arg0 main_call1_v5 main_call1_v13 ((fun x i => Host.gather gather_S1000000x64_S100000x1_S100000x64_1_0_n_n_0_1_164 x i) : (⟨S1000000x64, .f32⟩ : BufTy).Contents (Elt F) → (⟨S100000x1, .i32⟩ : BufTy).Contents (Elt F) → (⟨S100000x64, .f32⟩ : BufTy).Contents (Elt F)),
    unary main_call1_v12 main_call1_v14 ((broadcastInDim S100000x64 ![0] bcast_S100000_S100000x64_0) : (⟨S100000, .i1⟩ : BufTy).Contents (Elt F) → (⟨S100000x64, .i1⟩ : BufTy).Contents (Elt F)),
    nullary main_call1_cst (constant S_ .f32 0x7FC00000#32),
    unary main_call1_cst main_call1_v15 ((broadcastInDim S100000x64 ![] bcast_S_S100000x64) : (⟨S_, .f32⟩ : BufTy).Contents (Elt F) → (⟨S100000x64, .f32⟩ : BufTy).Contents (Elt F)),
    ternary main_call1_v14 main_call1_v13 main_call1_v15 main_v10 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    unary main_arg1 main_v11 ((transpose S64x64 [1, 0] · transposes_S64x64_S64x64_1_0) : (⟨S64x64, .f32⟩ : BufTy).Contents (Elt F) → (⟨S64x64, .f32⟩ : BufTy).Contents (Elt F)),
    binary main_v10 main_v11 main_v12 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg2 main_v13 (broadcastInDim S1x64 ![1] bcast_S64_S1x64_1 : (⟨S64, .f32⟩ : BufTy).Contents (Elt F) → (⟨S1x64, .f32⟩ : BufTy).Contents (Elt F)),
    unary main_v13 main_v14 (broadcastInDim S100000x64 ![0, 1] bcast_S1x64_S100000x64_0_1 : (⟨S1x64, .f32⟩ : BufTy).Contents (Elt F) → (⟨S100000x64, .f32⟩ : BufTy).Contents (Elt F)),
    binary main_v12 main_v14 main_v15 (addf : (⟨S100000x64, .f32⟩ : BufTy).Contents (Elt F) → (⟨S100000x64, .f32⟩ : BufTy).Contents (Elt F) → (⟨S100000x64, .f32⟩ : BufTy).Contents (Elt F)),
    nullary main_c_2 (constantI S_ 32 0#32),
    unary main_c_2 main_v16 (broadcastInDim S100000 ![] bcast_S_S100000 : (⟨S_, .i32⟩ : BufTy).Contents (Elt F) → (⟨S100000, .i32⟩ : BufTy).Contents (Elt F)),
    binary main_v9 main_v16 main_v17 (cmpi .slt : (⟨S100000, .i32⟩ : BufTy).Contents (Elt F) → (⟨S100000, .i32⟩ : BufTy).Contents (Elt F) → (⟨S100000, .i1⟩ : BufTy).Contents (Elt F)),
    nullary main_c_3 (constantI S_ 32 1000000#32),
    unary main_c_3 main_v18 (broadcastInDim S100000 ![] bcast_S_S100000 : (⟨S_, .i32⟩ : BufTy).Contents (Elt F) → (⟨S100000, .i32⟩ : BufTy).Contents (Elt F)),
    binary main_v9 main_v18 main_v19 (addi : (⟨S100000, .i32⟩ : BufTy).Contents (Elt F) → (⟨S100000, .i32⟩ : BufTy).Contents (Elt F) → (⟨S100000, .i32⟩ : BufTy).Contents (Elt F)),
    ternary main_v17 main_v19 main_v9 main_v20 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v20 main_v21 (broadcastInDim S100000x1 ![0] bcast_S100000_S100000x1_0 : (⟨S100000, .i32⟩ : BufTy).Contents (Elt F) → (⟨S100000x1, .i32⟩ : BufTy).Contents (Elt F)),
    ternary main_arg0 main_v21 main_v15 main_v22 ((fun x i u => Host.scatter scatter_S1000000x64_S100000x1_S100000x64_1_0_0_1 (fun _ b => b) x i u) : (⟨S1000000x64, .f32⟩ : BufTy).Contents (Elt F) → (⟨S100000x1, .i32⟩ : BufTy).Contents (Elt F) → (⟨S100000x64, .f32⟩ : BufTy).Contents (Elt F) → (⟨S1000000x64, .f32⟩ : BufTy).Contents (Elt F)),
    nullary main_c_4 (constantI S_ 1 0#1),
    unary main_c_4 main_v23 (broadcastInDim S1000000 ![] bcast_S_S1000000 : (⟨S_, .i1⟩ : BufTy).Contents (Elt F) → (⟨S1000000, .i1⟩ : BufTy).Contents (Elt F)),
    nullary main_c_5 (constantI S_ 32 0#32),
    unary main_c_5 main_v24 (broadcastInDim S100000 ![] bcast_S_S100000 : (⟨S_, .i32⟩ : BufTy).Contents (Elt F) → (⟨S100000, .i32⟩ : BufTy).Contents (Elt F)),
    binary main_v9 main_v24 main_v25 (cmpi .slt : (⟨S100000, .i32⟩ : BufTy).Contents (Elt F) → (⟨S100000, .i32⟩ : BufTy).Contents (Elt F) → (⟨S100000, .i1⟩ : BufTy).Contents (Elt F)),
    nullary main_c_6 (constantI S_ 32 1000000#32),
    unary main_c_6 main_v26 (broadcastInDim S100000 ![] bcast_S_S100000 : (⟨S_, .i32⟩ : BufTy).Contents (Elt F) → (⟨S100000, .i32⟩ : BufTy).Contents (Elt F)),
    binary main_v9 main_v26 main_v27 (addi : (⟨S100000, .i32⟩ : BufTy).Contents (Elt F) → (⟨S100000, .i32⟩ : BufTy).Contents (Elt F) → (⟨S100000, .i32⟩ : BufTy).Contents (Elt F)),
    ternary main_v25 main_v27 main_v9 main_v28 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v28 main_v29 (broadcastInDim S100000x1 ![0] bcast_S100000_S100000x1_0 : (⟨S100000, .i32⟩ : BufTy).Contents (Elt F) → (⟨S100000x1, .i32⟩ : BufTy).Contents (Elt F)),
    nullary main_c_7 (constantI S_ 1 1#1),
    unary main_c_7 main_v30 (broadcastInDim S100000 ![] bcast_S_S100000 : (⟨S_, .i1⟩ : BufTy).Contents (Elt F) → (⟨S100000, .i1⟩ : BufTy).Contents (Elt F)),
    ternary main_v23 main_v29 main_v30 main_v31 ((fun x i u => Host.scatter scatter_S1000000_S100000x1_S100000_n_0_0_1 (fun _ b => b) x i u) : (⟨S1000000, .i1⟩ : BufTy).Contents (Elt F) → (⟨S100000x1, .i32⟩ : BufTy).Contents (Elt F) → (⟨S100000, .i1⟩ : BufTy).Contents (Elt F) → (⟨S1000000, .i1⟩ : BufTy).Contents (Elt F)) ]

set_option maxHeartbeats 4000000 in
/-- The reference program is the first stretch, the call, and the last stretch. -/
theorem main_eq (d : Dev nD) : main (F := F) d
    = (seq (before (F := F)) >>= fun _ => (fn_shuffle.body (.of main_v6) (.of main_v7) main_call0 >>= fun _ => seq (behind (F := F)))) := by
  chain_rfl

set_option maxHeartbeats 4000000 in
/-- What the last stretch leaves in the first result. -/
theorem behind_v22 (V : Valuation τ sig (Elt F)) :
    after (behind (F := F)) V (main_v22 : DevRef τ sig)
      = replaced (V (main_arg0 : DevRef τ sig)) (V (main_arg1 : DevRef τ sig)) (V (main_arg2 : DevRef τ sig)) (V (main_v8 : DevRef τ sig)) := by
  after_results
  rfl

set_option maxHeartbeats 4000000 in
/-- What the last stretch leaves in the second result. -/
theorem behind_v31 (V : Valuation τ sig (Elt F)) :
    after (behind (F := F)) V (main_v31 : DevRef τ sig) = labels (V (main_v8 : DevRef τ sig)) := by
  after_results
  rfl

end Cert.Reference

end
-- ==== Proof.Reference.Entry.lean ====
/-
  The reference program's results, entry by entry: a row is chosen when some index word is its number; a chosen row's
  label is true and its entries are the row times the transposed weights plus the bias, and any other row's label is
  false and its entries are the first argument's.
-/
module

public import proofs.«01_k».proof.Proof.Reference.Line
public import Idealize.ShloMosaic.Lib.Routing.Ops
public import Idealize.ShloMosaic.Lib.Routing.OpsPair
public import Idealize.ShloMosaic.Lib.Routing.OpsSet
public import Idealize.ShloMosaic.Lib.MatmulPlain
public import Idealize.ShloMosaic.Lib.StackMember
public import Idealize.ShloMosaic.Lib.ReduceAll
public import Idealize.ShloMosaic.Lib.WordCmp
public import Idealize.ShloMosaic.Lib.ValueIdx

@[expose] public section

noncomputable section

namespace Cert.Reference

open Cert.ReferenceIdeal Cert.ReferenceIdeal.Facts₀
open Idealize.ShloMosaic Idealize.ShloMosaic.ValueIdx Idealize.ShloMosaic.Routing

/-- Index word `e`, read signed, is the number of row `i`. -/
def Names (P : IVec S1000000 32) (e : Fin 100000) (i : Fin 1000000) : Prop :=
  (starts P (ix2 e (0 : Fin 1))).toInt = (i.val : Int)

/-- Row `i` is chosen: some index word is its number. -/
def Chosen (P : IVec S1000000 32) (i : Fin 1000000) : Prop := ∃ e, Names P e i

/-- A label's update lands at the row whose number its index word is. -/
theorem label_lands (P : IVec S1000000 32) (e : Fin 100000) (i : Fin 1000000) :
    scatter_S1000000_S100000x1_S100000_n_0_0_1.resultIdx? (ix1 e) (starts P) = some (ix1 i) ↔ Names P e i := by
  have hs : scatter_S1000000_S100000x1_S100000_n_0_0_1.start (ix1 e) (starts P) 0 = (starts P (ix2 e (0 : Fin 1))).toInt :=
    congrArg (fun k => (starts P k).toInt) (funext fun b => Fin.ext (by match b with | ⟨0, _⟩ => rfl | ⟨1, _⟩ => rfl))
  have hw : scatter_S1000000_S100000x1_S100000_n_0_0_1.window (ix1 e) 0 = 0 := rfl
  rw [resultIdx?_ix1, hs, hw, Int.natCast_zero, add_zero, Names]

/-- A row's update lands, column by column, at the row whose number its index word is. -/
theorem row_lands (P : IVec S1000000 32) (e : Fin 100000) (j' : Fin 64) (i : Fin 1000000) (j : Fin 64) :
    scatter_S1000000x64_S100000x1_S100000x64_1_0_0_1.resultIdx? (ix2 e j') (starts P) = some (ix2 i j) ↔ Names P e i ∧ j' = j := by
  have hs : scatter_S1000000x64_S100000x1_S100000x64_1_0_0_1.start (ix2 e j') (starts P) 0 = (starts P (ix2 e (0 : Fin 1))).toInt :=
    congrArg (fun k => (starts P k).toInt) (funext fun b => Fin.ext (by match b with | ⟨0, _⟩ => rfl | ⟨1, _⟩ => rfl))
  have hs1 : scatter_S1000000x64_S100000x1_S100000x64_1_0_0_1.start (ix2 e j') (starts P) 1 = 0 := rfl
  have hw : scatter_S1000000x64_S100000x1_S100000x64_1_0_0_1.window (ix2 e j') 0 = 0 := rfl
  have hw1 : scatter_S1000000x64_S100000x1_S100000x64_1_0_0_1.window (ix2 e j') 1 = j'.val := rfl
  rw [resultIdx?_ix2, hs, hs1, hw, hw1, Int.natCast_zero, add_zero, zero_add, Names, Int.natCast_inj, Fin.val_inj]

/-- A chosen row's label is true. -/
theorem labels_chosen (P : IVec S1000000 32) (i : Fin 1000000) (h : Chosen P i) : labels P (ix1 i) = 1#1 := by
  obtain ⟨e, he⟩ := h
  exact scatter_set_hit _ _ _ _ _ _ (fun k _ => bc0 _ _ k) (ix1 e) ((label_lands P e i).2 he)

/-- Any other row's label is false. -/
theorem labels_other (P : IVec S1000000 32) (i : Fin 1000000) (h : ¬ Chosen P i) : labels P (ix1 i) = 0#1 := by
  refine (scatter_set_miss _ _ _ _ _ fun k hk => h ?_).trans (bc0 _ _ _)
  rw [eq_ix1 k] at hk
  exact ⟨_, (label_lands P _ i).1 hk⟩

/-- An index word that is a row's number passes the range check. -/
theorem inRange_of_names (P : IVec S1000000 32) (e : Fin 100000) (i : Fin 1000000) (h : Names P e i) : inRange (starts P) (ix1 e) = 1#1 := by
  unfold inRange
  rw [Host.reduce_eq_foldl]
  refine IntOp.foldl_andi_one _ _ _ rfl fun k hk => ?_
  have hd : reducesTo_S100000x1_S100000_d1.drop k = ix1 e := of_decide_eq_true (List.mem_filter.1 hk).2
  have h0 : k 0 = e := Fin.ext (congrArg Fin.val (congrFun hd 0))
  have h1 : k 1 = (0 : Fin 1) := Subsingleton.elim (α := Fin 1) _ _
  have hk' : k = ix2 e (0 : Fin 1) := by rw [eq_ix2 k, h0, h1]; rfl
  subst hk'
  show IntOp.andi (IntOp.cmpi .sge (starts P (ix2 e (0 : Fin 1))) (0#32)) (IntOp.cmpi .sle (starts P (ix2 e (0 : Fin 1))) (999999#32)) = 1#1
  rw [WordCmp.cmpi_sge_eq, WordCmp.cmpi_sle_eq, WordCmp.andi_ofBool, WordCmp.ofBool_eq_one_iff, Bool.and_eq_true, decide_eq_true_iff, decide_eq_true_iff]
  rw [Names] at h
  rw [h]
  have hi := i.isLt
  exact ⟨by show (0 : Int) ≤ _; omega, by show _ ≤ (999999 : Int); omega⟩

/-- The taken row at a chosen row's index word is that row. -/
theorem taken_of_names (x : FVec Ideal S1000000x64 .f32) (P : IVec S1000000 32) (e : Fin 100000) (i : Fin 1000000) (h : Names P e i) (k : Fin 64) :
    taken x (starts P) (ix2 e k) = x (ix2 i k) := by
  have hb : broadcastInDim S100000x64 ![0] bcast_S100000_S100000x64_0 (inRange (starts P)) (ix2 e k) = 1#1 :=
    (broadcastInDim_apply _ _ _ _ (ix1 e) (fun a => by match a with | ⟨0, _⟩ => rfl)).trans (inRange_of_names P e i h)
  have hw : starts P (ix2 e (0 : Fin 1)) = BitVec.ofNat 32 i.val := by
    refine BitVec.eq_of_toInt_eq ?_
    have hi := i.isLt
    rw [WordCmp.toInt_ofNat_of_lt (by omega)]
    exact h
  unfold taken select
  rw [hb]
  exact gather_row _ rfl rfl rfl rfl rfl x (starts P) e k i hw (by omega)

/-- What a chosen row becomes: the row times the transposed weights, plus the bias. -/
def image (x : FVec Ideal S1000000x64 .f32) (w : FVec Ideal S64x64 .f32) (b : FVec Ideal S64 .f32) (i : Fin 1000000) (j : Fin 64) : EReal :=
  (∑ k : Fin 64, x (ix2 i k) * w (ix2 j k)) + b (ix1 j)

/-- The update computed for an index word is the image of the row whose number the word is. -/
theorem affine_of_names (x : FVec Ideal S1000000x64 .f32) (w : FVec Ideal S64x64 .f32) (b : FVec Ideal S64 .f32) (P : IVec S1000000 32)
    (e : Fin 100000) (i : Fin 1000000) (h : Names P e i) (j : Fin 64) : affine (taken x (starts P)) w b (ix2 e j) = image x w b i j := by
  unfold affine image
  rw [addf_apply, bcCols]
  refine congrArg (· + b (ix1 j)) ?_
  refine (StackMember.dotGeneral_plain_apply none _ _ e j).trans (Finset.sum_congr rfl fun k _ => ?_)
  rw [taken_of_names x P e i h k]
  refine congrArg (x (ix2 i k) * ·) (transpose_apply _ w _ _ (ix2 j k) fun a => ?_)
  match a with
  | ⟨0, _⟩ => rfl
  | ⟨1, _⟩ => rfl

/-- A chosen row of the first result is its image. -/
theorem replaced_chosen (x : FVec Ideal S1000000x64 .f32) (w : FVec Ideal S64x64 .f32) (b : FVec Ideal S64 .f32) (P : IVec S1000000 32)
    (i : Fin 1000000) (j : Fin 64) (h : Chosen P i) : replaced x w b P (ix2 i j) = image x w b i j := by
  obtain ⟨e, he⟩ := h
  refine scatter_set_hit _ _ _ _ _ _ (fun k hk => ?_) (ix2 e j) ((row_lands P e j i j).2 ⟨he, rfl⟩)
  rw [eq_ix2 k] at hk ⊢
  obtain ⟨hn, hj⟩ := (row_lands P _ _ i j).1 hk
  rw [hj]
  exact affine_of_names x w b P _ i hn j

/-- Any other row of it is the first argument's. -/
theorem replaced_other (x : FVec Ideal S1000000x64 .f32) (w : FVec Ideal S64x64 .f32) (b : FVec Ideal S64 .f32) (P : IVec S1000000 32)
    (i : Fin 1000000) (j : Fin 64) (h : ¬ Chosen P i) : replaced x w b P (ix2 i j) = x (ix2 i j) := by
  refine scatter_set_miss _ _ _ _ _ fun k hk => h ?_
  rw [eq_ix2 k] at hk
  exact ⟨_, ((row_lands P _ _ i j).1 hk).1⟩

end Cert.Reference

end
-- ==== Proof.Shuffle.Sim.lean ====
/-
  Two straight lines of host operations, in two programs with buffer tables of their own, run side by side: if they
  write the same numbered buffers by the same operations, they leave equal contents in equally numbered buffers.
-/
module

public import Idealize.ShloMosaic.Lib.StableHlo.RunHlo

@[expose] public section

namespace Cert.Shuffle

open Idealize.ShloMosaic Idealize.ShloMosaic.StableHlo Idealize.SL.Sem

variable {nD nD' : Nat} {τ τ' : Topo} {sig sig' : RefSig} {Val : EltTy → Type} {Λ Λ' : Labels}

/-- The typed reference is the buffer of number `n` in device memory. -/
structure At {T : BufTy} (y : TRef sig T) (n : Nat) : Prop where
  /-- It lies in device memory. -/
  space : y.ref.space = .hbm
  /-- Its number is `n`. -/
  idx : y.ref.idx.val = n

/-- The two typed references carry one number, which is at least `lo` and below `n`. -/
structure Same {T : BufTy} (lo n : Nat) (x : TRef sig T) (x' : TRef sig' T) : Prop where
  /-- The first lies in device memory. -/
  space : x.ref.space = .hbm
  /-- The second lies in device memory. -/
  space' : x'.ref.space = .hbm
  /-- They carry one number. -/
  idx : x.ref.idx.val = x'.ref.idx.val
  /-- It is at least `lo`. -/
  lo_le : Nat.ble lo x.ref.idx.val = true
  /-- It is below `n`. -/
  lt : Nat.ble (x.ref.idx.val + 1) n = true

/-- The two valuations hold equal contents in every pair of buffers numbered alike, from `lo` up to `n`. -/
def Agree (lo n : Nat) (V : Valuation τ sig Val) (V' : Valuation τ' sig' Val) : Prop :=
  ∀ (T : BufTy) (x : TRef sig T) (x' : TRef sig' T), Same lo n x x' →
    x.ofBuf (V (Proc.devRef .tc x.ref)) = x'.ofBuf (V' (Proc.devRef .tc x'.ref))

/-- A reference in device memory is determined by its number. -/
theorem ref_ext {x y : Ref sig .tc} (hx : x.space = .hbm) (hy : y.space = .hbm) (h : x.idx.val = y.idx.val) : x = y := by
  obtain ⟨sx, ix, nx⟩ := x
  obtain ⟨sy, iy, ny⟩ := y
  dsimp only at hx hy h
  subst hx; subst hy
  obtain rfl : ix = iy := Fin.ext h
  rfl

/-- A device buffer other than the one of number `n` is not the buffer of number `n`. -/
theorem ref_ne {x y : Ref sig .tc} (h : x.idx.val ≠ y.idx.val) : x ≠ y := fun e => h (by rw [e])

/-- The operation writes only the buffer of number `n` in device memory. -/
def WritesAt (n : Nat) (op : HloOp τ sig Val) : Prop :=
  ∃ y : Ref sig .tc, y.space = .hbm ∧ y.idx.val = n ∧ op.writes = {Proc.devRef .tc y}

/-- An operation writing only buffer `n` leaves every buffer of another number. -/
theorem WritesAt.keeps {n : Nat} {op : HloOp τ sig Val} (h : WritesAt n op) (V : Valuation τ sig Val) {x : Ref sig .tc}
    (hx : x.idx.val ≠ n) : op.result V (Proc.devRef .tc x) = V (Proc.devRef .tc x) := by
  obtain ⟨y, _, hn, hw⟩ := h
  refine op.result_of_not_mem V ?_
  rw [hw, Finset.mem_singleton]
  exact devRef_ne_of_ne (ref_ne (hn ▸ hx))

/-- One step side by side: both operations write buffer `n` only, with equal contents there; agreement below `n` becomes
    agreement below `n + 1`. -/
theorem agree_step {lo n : Nat} {V : Valuation τ sig Val} {V' : Valuation τ' sig' Val} (hV : Agree lo n V V')
    {Ty : BufTy} {y : TRef sig Ty} {y' : TRef sig' Ty} (hy : At y n) (hy' : At y' n)
    {op : HloOp τ sig Val} {op' : HloOp τ' sig' Val} (hw : WritesAt n op) (hw' : WritesAt n op')
    (he : y.ofBuf (op.result V (Proc.devRef .tc y.ref)) = y'.ofBuf (op'.result V' (Proc.devRef .tc y'.ref))) :
    Agree lo (n + 1) (op.result V) (op'.result V') := by
  intro T x x' hx
  by_cases hn : x.ref.idx.val = n
  · obtain ⟨xr, xt, xd, xu⟩ := x
    obtain ⟨xr', xt', xd', xu'⟩ := x'
    obtain ⟨yr, yt, yd, yu⟩ := y
    obtain ⟨yr', yt', yd', yu'⟩ := y'
    obtain rfl : xr = yr := ref_ext hx.space hy.space (hn.trans hy.idx.symm)
    obtain rfl : xr' = yr' := ref_ext hx.space' hy'.space ((hx.idx.symm.trans hn).trans hy'.idx.symm)
    subst xt
    obtain rfl : Ty = xr.ty := yt.symm
    exact he
  · have hn' : x'.ref.idx.val ≠ n := fun e => hn (hx.idx.trans e)
    rw [hw.keeps V hn, hw'.keeps V' hn']
    refine hV T x x' ⟨hx.space, hx.space', hx.idx, hx.lo_le, ?_⟩
    have h1 := Nat.le_of_ble_eq_true hx.lt
    exact Nat.ble_eq_true_of_le (by omega)

/-- Side by side from agreement below `n` to agreement below `n'`: each program is a straight line of operations; the
    second line's operations touch the core's own references only, choose nothing freely, and write no buffer numbered
    below `n`; and agreement is carried over. -/
def Beside (lo n n' : Nat) (p : Prog (TpuEff nD τ sig Val Λ .tc) PUnit) (p' : Prog (TpuEff nD' τ' sig' Val Λ' .tc) PUnit) : Prop :=
  ∃ (ops : List (HloOp τ sig Val)) (ops' : List (HloOp τ' sig' Val)),
    IsSeq p ops ∧ IsSeq p' ops' ∧ (∀ op ∈ ops', op.bufs ⊆ tcRefs τ' sig') ∧ (∀ op ∈ ops', op.fresh = ∅) ∧
    (∀ op ∈ ops', ∃ k, n ≤ k ∧ WritesAt k op) ∧ n ≤ n' ∧
    ∀ (V : Valuation τ sig Val) (V' : Valuation τ' sig' Val), Agree lo n V V' → Agree lo n' (after ops V) (after ops' V')

/-- Two programs that do nothing. -/
theorem Beside.nil {lo n : Nat} :
    Beside lo n n (pure ⟨⟩ : Prog (TpuEff nD τ sig Val Λ .tc) PUnit) (pure ⟨⟩ : Prog (TpuEff nD' τ' sig' Val Λ' .tc) PUnit) :=
  ⟨[], [], IsSeq.nil, IsSeq.nil, nofun, nofun, nofun, le_rfl, fun _ _ h => h⟩

/-- One pair of lines after another. -/
theorem Beside.bind {lo n k n' : Nat} {p q : Prog (TpuEff nD τ sig Val Λ .tc) PUnit} {p' q' : Prog (TpuEff nD' τ' sig' Val Λ' .tc) PUnit}
    (h : Beside lo n k p p') (g : Beside lo k n' q q') : Beside lo n n' (p >>= fun _ => q) (p' >>= fun _ => q') := by
  obtain ⟨l, l', hp, hp', hb, hf, hw, hn, ha⟩ := h
  obtain ⟨r, r', hq, hq', gb, gf, gw, gn, ga⟩ := g
  refine ⟨l ++ r, l' ++ r', ?_, ?_, ?_, ?_, ?_, hn.trans gn, ?_⟩
  · unfold IsSeq at hp hq ⊢; rw [seq_append, hp, hq]
  · unfold IsSeq at hp' hq' ⊢; rw [seq_append, hp', hq']
  · exact fun op ho => (List.mem_append.mp ho).elim (hb op) (gb op)
  · exact fun op ho => (List.mem_append.mp ho).elim (hf op) (gf op)
  · exact fun op ho => (List.mem_append.mp ho).elim (hw op) fun ho => (gw op ho).imp fun _ h => ⟨hn.trans h.1, h.2⟩
  · intro V V' hV
    have e : ∀ {τ : Topo} {sig : RefSig} (a b : List (HloOp τ sig Val)) (W : Valuation τ sig Val), after (a ++ b) W = after b (after a W) := by
      intro τ sig a b
      induction a with
      | nil => intro W; rfl
      | cons op a ih => intro W; exact ih _
    rw [e, e]
    exact ga _ _ (ha _ _ hV)

/-- Two operations alike: each writes buffer `n` only, the second touches the core's own references only and chooses
    nothing freely, and from valuations that agree below `n` they leave equal contents there. -/
structure Alike (lo n : Nat) (op : HloOp τ sig Val) (op' : HloOp τ' sig' Val) : Prop where
  /-- The second touches the core's own references. -/
  bufs : op'.bufs ⊆ tcRefs τ' sig'
  /-- The second chooses nothing freely. -/
  fresh : op'.fresh = ∅
  /-- The second writes buffer `n`. -/
  writes : WritesAt n op'
  /-- Agreement below `n` becomes agreement below `n + 1`. -/
  step : ∀ (V : Valuation τ sig Val) (V' : Valuation τ' sig' Val), Agree lo n V V' → Agree lo (n + 1) (op.result V) (op'.result V')

/-- One operation beside one like it. -/
theorem Beside.one {lo n : Nat} {op : HloOp τ sig Val} {op' : HloOp τ' sig' Val} (h : Alike lo n op op') :
    Beside lo n (n + 1) (hlo rfl op fun _ => .ret (⟨⟩ : PUnit) : Prog (TpuEff nD τ sig Val Λ .tc) PUnit)
      (hlo rfl op' fun _ => .ret (⟨⟩ : PUnit) : Prog (TpuEff nD' τ' sig' Val Λ' .tc) PUnit) := by
  refine ⟨[op], [op'], rfl, rfl, ?_, ?_, ?_, Nat.le_succ n, h.step⟩
  · intro o ho; obtain rfl := List.mem_singleton.mp ho; exact h.bufs
  · intro o ho; obtain rfl := List.mem_singleton.mp ho; exact h.fresh
  · intro o ho; obtain rfl := List.mem_singleton.mp ho; exact ⟨n, le_rfl, h.writes⟩

/-- One operation beside one like it, then the rest beside the rest. -/
theorem Beside.cons {lo n n' : Nat} {op : HloOp τ sig Val} {op' : HloOp τ' sig' Val}
    {q : Prog (TpuEff nD τ sig Val Λ .tc) PUnit} {q' : Prog (TpuEff nD' τ' sig' Val Λ' .tc) PUnit}
    (h : Alike lo n op op') (g : Beside lo (n + 1) n' q q') :
    Beside lo n n' ((hlo rfl op fun _ => .ret (⟨⟩ : PUnit)) >>= fun _ => q) ((hlo rfl op' fun _ => .ret (⟨⟩ : PUnit)) >>= fun _ => q') :=
  (Beside.one h).bind g

/-- Two operations are alike that write typed references of number `n` and leave equal contents there. -/
theorem Alike.of {lo n : Nat} {Ty : BufTy} {y : TRef sig Ty} {y' : TRef sig' Ty} (hy : At y n) (hy' : At y' n)
    {op : HloOp τ sig Val} {op' : HloOp τ' sig' Val} (hw : op.writes = {Proc.devRef .tc y.ref}) (hw' : op'.writes = {Proc.devRef .tc y'.ref})
    (hb : op'.bufs ⊆ tcRefs τ' sig') (hf : op'.fresh = ∅)
    (he : ∀ (V : Valuation τ sig Val) (V' : Valuation τ' sig' Val), Agree lo n V V' →
      y.ofBuf (op.result V (Proc.devRef .tc y.ref)) = y'.ofBuf (op'.result V' (Proc.devRef .tc y'.ref))) :
    Alike lo n op op' :=
  have w' : WritesAt n op' := ⟨y'.ref, hy'.space, hy'.idx, hw'⟩
  ⟨hb, hf, w', fun V V' hV => agree_step hV hy hy' ⟨y.ref, hy.space, hy.idx, hw⟩ w' (he V V' hV)⟩

/-- A value written at a typed reference's type is read back. -/
theorem ofBuf_toBuf {T : BufTy} (y : TRef sig T) (v : T.Contents Val) : y.ofBuf (y.toBuf v) = v := by
  obtain ⟨r, t, _, _⟩ := y; subst t; rfl

/-- The same constant beside itself. -/
theorem Alike.nullary {lo n : Nat} {Ty : BufTy} {y : TRef sig Ty} {y' : TRef sig' Ty} {v v' : Ty.Contents Val}
    (hy : At y n) (hy' : At y' n) (hv : v = v') :
    Alike lo n (TRef.nullary y v : HloOp τ sig Val) (TRef.nullary y' v' : HloOp τ' sig' Val) :=
  Alike.of hy hy' rfl rfl (nullary_bufs_sub ..) rfl fun V V' _ => by
    rw [nullary_result, nullary_result, ofBuf_toBuf, ofBuf_toBuf, hv]

/-- The same one-operand operation beside itself. -/
theorem Alike.unary {lo n : Nat} {Tx Ty : BufTy} {x : TRef sig Tx} {x' : TRef sig' Tx} {y : TRef sig Ty} {y' : TRef sig' Ty}
    {f f' : Tx.Contents Val → Ty.Contents Val} (hx : Same lo n x x') (hy : At y n) (hy' : At y' n) (hf : f = f') :
    Alike lo n (TRef.unary x y f : HloOp τ sig Val) (TRef.unary x' y' f' : HloOp τ' sig' Val) :=
  Alike.of hy hy' rfl rfl (unary_bufs_sub ..) rfl fun V V' h => by
    rw [unary_result, unary_result, ofBuf_toBuf, ofBuf_toBuf, hf, h _ x x' hx]

/-- The same two-operand operation beside itself. -/
theorem Alike.binary {lo n : Nat} {Ta Tb Ty : BufTy} {a : TRef sig Ta} {a' : TRef sig' Ta} {b : TRef sig Tb} {b' : TRef sig' Tb}
    {y : TRef sig Ty} {y' : TRef sig' Ty} {f f' : Ta.Contents Val → Tb.Contents Val → Ty.Contents Val}
    (ha : Same lo n a a') (hb : Same lo n b b') (hy : At y n) (hy' : At y' n) (hf : f = f') :
    Alike lo n (TRef.binary a b y f : HloOp τ sig Val) (TRef.binary a' b' y' f' : HloOp τ' sig' Val) :=
  Alike.of hy hy' rfl rfl (binary_bufs_sub ..) rfl fun V V' h => by
    rw [binary_result, binary_result, ofBuf_toBuf, ofBuf_toBuf, hf, h _ a a' ha, h _ b b' hb]

/-- What a reshape leaves, at the typed references' types. -/
theorem reshape_reads {Tx Ty : BufTy} (x : TRef sig Tx) (y : TRef sig Ty) (he : Tx.elt = Ty.elt) (hn : Tx.shape.ShapeCasts Ty.shape)
    (V : Valuation τ sig Val) :
    y.ofBuf ((TRef.reshape x y he hn : HloOp τ sig Val).result V (Proc.devRef .tc y.ref))
      = fun i => he ▸ shapeCast Ty.shape (x.ofBuf (V (Proc.devRef .tc x.ref))) hn i := by
  obtain ⟨xr, xt, xd, xu⟩ := x
  obtain ⟨yr, yt, yd, yu⟩ := y
  subst xt; subst yt
  exact reshape_result xr yr _ _ _ _ V

/-- The same reshape beside itself. -/
theorem Alike.reshape {lo n : Nat} {Tx Ty : BufTy} {x : TRef sig Tx} {x' : TRef sig' Tx} {y : TRef sig Ty} {y' : TRef sig' Ty}
    {he he' : Tx.elt = Ty.elt} {hn hn' : Tx.shape.ShapeCasts Ty.shape} (hx : Same lo n x x') (hy : At y n) (hy' : At y' n) :
    Alike lo n (TRef.reshape x y he hn : HloOp τ sig Val) (TRef.reshape x' y' he' hn' : HloOp τ' sig' Val) :=
  Alike.of hy hy' rfl rfl (reshape_bufs_sub ..) rfl fun V V' h => by
    rw [reshape_reads, reshape_reads, h _ x x' hx]

/-- A straight line's operations are read off the program in one way only (there being some contents for each buffer). -/
theorem seq_inj (V : Valuation τ sig Val) : ∀ {l r : List (HloOp τ sig Val)},
    (seq l : Prog (TpuEff nD τ sig Val Λ .tc) PUnit) = seq r → l = r
  | [], [], _ => rfl
  | [], _ :: _, h => by cases h
  | _ :: _, [], h => by cases h
  | a :: l, b :: r, h => by
    have h' : (Prog.op (.hloBegin rfl a) fun _ => .op (.hloEnd rfl a.writes) fun _ => seq l : Prog (TpuEff nD τ sig Val Λ .tc) PUnit)
        = Prog.op (.hloBegin rfl b) fun _ => .op (.hloEnd rfl b.writes) fun _ => seq r := h
    obtain ⟨_, he, hk⟩ := Prog.op.inj h'
    obtain rfl : a = b := TpuEff.hloBegin.inj (eq_of_heq he)
    obtain ⟨_, _, hk'⟩ := Prog.op.inj (congrFun (eq_of_heq hk) ⟨⟩)
    exact congrArg (a :: ·) (seq_inj V (congrFun (eq_of_heq hk') (a.fn fun b => V b.1)))

end Cert.Shuffle
-- ==== Proof.Shuffle.Twin.lean ====
/-
  The two programs' copies of `_shuffle` run side by side: the call's buffers carry equal numbers in both programs, and
  statement by statement the same operation writes them.
-/
module

public import proofs.«01_k».proof.Proof.Shuffle.Sim
public import proofs.«01_k».proof.KernelIdeal
public import proofs.«01_k».proof.ReferenceIdeal
public import Idealize.ShloMosaic.PureOps.Ideal

@[expose] public section

namespace Cert.Shuffle

open Idealize.ShloMosaic Idealize.ShloMosaic.StableHlo Idealize.SL.Sem

variable [Cert.KernelIdeal.Facts] [Cert.ReferenceIdeal.Facts]

/-- The first key split's rounds. -/
theorem rounds_a : Beside 12 27 249
    (Cert.KernelIdeal.fn_threefry2x32.body (F := Ideal) Cert.KernelIdeal.main_call0_call0.v1 Cert.KernelIdeal.main_call0_call0.v3 Cert.KernelIdeal.main_call0_call0.v10 Cert.KernelIdeal.main_call0_call0.v9 Cert.KernelIdeal.main_call0_call0.call0)
    (Cert.ReferenceIdeal.fn_threefry2x32.body (F := Ideal) Cert.ReferenceIdeal.main_call0_call0.v1 Cert.ReferenceIdeal.main_call0_call0.v3 Cert.ReferenceIdeal.main_call0_call0.v10 Cert.ReferenceIdeal.main_call0_call0.v9 Cert.ReferenceIdeal.main_call0_call0.call0) := by
  unfold Cert.KernelIdeal.fn_threefry2x32.body Cert.ReferenceIdeal.fn_threefry2x32.body
  refine Beside.bind (k := 87) ?_ (Beside.bind (k := 147) ?_ (Beside.bind (k := 207) ?_ ?_))
  · unfold Cert.KernelIdeal.fn_threefry2x32.body_part0 Cert.ReferenceIdeal.fn_threefry2x32.body_part0
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl
  · unfold Cert.KernelIdeal.fn_threefry2x32.body_part1 Cert.ReferenceIdeal.fn_threefry2x32.body_part1
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl
  · unfold Cert.KernelIdeal.fn_threefry2x32.body_part2 Cert.ReferenceIdeal.fn_threefry2x32.body_part2
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl
  · unfold Cert.KernelIdeal.fn_threefry2x32.body_part3 Cert.ReferenceIdeal.fn_threefry2x32.body_part3
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl

/-- The first million draws' rounds. -/
theorem rounds_b : Beside 12 269 491
    (Cert.KernelIdeal.fn_threefry2x32_0.body (F := Ideal) Cert.KernelIdeal.main_call0.v6 Cert.KernelIdeal.main_call0.v8 Cert.KernelIdeal.main_call0.v15 Cert.KernelIdeal.main_call0.v14 Cert.KernelIdeal.main_call0.call1)
    (Cert.ReferenceIdeal.fn_threefry2x32_0.body (F := Ideal) Cert.ReferenceIdeal.main_call0.v6 Cert.ReferenceIdeal.main_call0.v8 Cert.ReferenceIdeal.main_call0.v15 Cert.ReferenceIdeal.main_call0.v14 Cert.ReferenceIdeal.main_call0.call1) := by
  unfold Cert.KernelIdeal.fn_threefry2x32_0.body Cert.ReferenceIdeal.fn_threefry2x32_0.body
  refine Beside.bind (k := 329) ?_ (Beside.bind (k := 389) ?_ (Beside.bind (k := 449) ?_ ?_))
  · unfold Cert.KernelIdeal.fn_threefry2x32_0.body_part0 Cert.ReferenceIdeal.fn_threefry2x32_0.body_part0
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl
  · unfold Cert.KernelIdeal.fn_threefry2x32_0.body_part1 Cert.ReferenceIdeal.fn_threefry2x32_0.body_part1
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl
  · unfold Cert.KernelIdeal.fn_threefry2x32_0.body_part2 Cert.ReferenceIdeal.fn_threefry2x32_0.body_part2
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl
  · unfold Cert.KernelIdeal.fn_threefry2x32_0.body_part3 Cert.ReferenceIdeal.fn_threefry2x32_0.body_part3
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl

/-- The second key split's rounds. -/
theorem rounds_c : Beside 12 507 729
    (Cert.KernelIdeal.fn_threefry2x32.body (F := Ideal) Cert.KernelIdeal.main_call0_call2.v1 Cert.KernelIdeal.main_call0_call2.v3 Cert.KernelIdeal.main_call0_call2.v10 Cert.KernelIdeal.main_call0_call2.v9 Cert.KernelIdeal.main_call0_call2.call0)
    (Cert.ReferenceIdeal.fn_threefry2x32.body (F := Ideal) Cert.ReferenceIdeal.main_call0_call2.v1 Cert.ReferenceIdeal.main_call0_call2.v3 Cert.ReferenceIdeal.main_call0_call2.v10 Cert.ReferenceIdeal.main_call0_call2.v9 Cert.ReferenceIdeal.main_call0_call2.call0) := by
  unfold Cert.KernelIdeal.fn_threefry2x32.body Cert.ReferenceIdeal.fn_threefry2x32.body
  refine Beside.bind (k := 567) ?_ (Beside.bind (k := 627) ?_ (Beside.bind (k := 687) ?_ ?_))
  · unfold Cert.KernelIdeal.fn_threefry2x32.body_part0 Cert.ReferenceIdeal.fn_threefry2x32.body_part0
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl
  · unfold Cert.KernelIdeal.fn_threefry2x32.body_part1 Cert.ReferenceIdeal.fn_threefry2x32.body_part1
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl
  · unfold Cert.KernelIdeal.fn_threefry2x32.body_part2 Cert.ReferenceIdeal.fn_threefry2x32.body_part2
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl
  · unfold Cert.KernelIdeal.fn_threefry2x32.body_part3 Cert.ReferenceIdeal.fn_threefry2x32.body_part3
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl

/-- The second million draws' rounds. -/
theorem rounds_d : Beside 12 749 971
    (Cert.KernelIdeal.fn_threefry2x32_0.body (F := Ideal) Cert.KernelIdeal.main_call0.v25 Cert.KernelIdeal.main_call0.v27 Cert.KernelIdeal.main_call0.v34 Cert.KernelIdeal.main_call0.v33 Cert.KernelIdeal.main_call0.call3)
    (Cert.ReferenceIdeal.fn_threefry2x32_0.body (F := Ideal) Cert.ReferenceIdeal.main_call0.v25 Cert.ReferenceIdeal.main_call0.v27 Cert.ReferenceIdeal.main_call0.v34 Cert.ReferenceIdeal.main_call0.v33 Cert.ReferenceIdeal.main_call0.call3) := by
  unfold Cert.KernelIdeal.fn_threefry2x32_0.body Cert.ReferenceIdeal.fn_threefry2x32_0.body
  refine Beside.bind (k := 809) ?_ (Beside.bind (k := 869) ?_ (Beside.bind (k := 929) ?_ ?_))
  · unfold Cert.KernelIdeal.fn_threefry2x32_0.body_part0 Cert.ReferenceIdeal.fn_threefry2x32_0.body_part0
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl
  · unfold Cert.KernelIdeal.fn_threefry2x32_0.body_part1 Cert.ReferenceIdeal.fn_threefry2x32_0.body_part1
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl
  · unfold Cert.KernelIdeal.fn_threefry2x32_0.body_part2 Cert.ReferenceIdeal.fn_threefry2x32_0.body_part2
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl
  · unfold Cert.KernelIdeal.fn_threefry2x32_0.body_part3 Cert.ReferenceIdeal.fn_threefry2x32_0.body_part3
    repeat' first
      | with_reducible exact Beside.nil
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl

/-- The first key split. -/
theorem split_a : Beside 12 14 252
    (Cert.KernelIdeal.fn_threefry_split.body (F := Ideal) (.of Cert.KernelIdeal.main_v6) Cert.KernelIdeal.main_call0.call0)
    (Cert.ReferenceIdeal.fn_threefry_split.body (F := Ideal) (.of Cert.ReferenceIdeal.main_v6) Cert.ReferenceIdeal.main_call0.call0) := by
  · unfold Cert.KernelIdeal.fn_threefry_split.body Cert.ReferenceIdeal.fn_threefry_split.body
    repeat' first
      | with_reducible exact Beside.nil
      | with_reducible refine Beside.bind rounds_a ?_
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl

/-- The second key split. -/
theorem split_c : Beside 12 494 732
    (Cert.KernelIdeal.fn_threefry_split_1.body (F := Ideal) Cert.KernelIdeal.main_call0.v2 Cert.KernelIdeal.main_call0.call2)
    (Cert.ReferenceIdeal.fn_threefry_split_1.body (F := Ideal) Cert.ReferenceIdeal.main_call0.v2 Cert.ReferenceIdeal.main_call0.call2) := by
  · unfold Cert.KernelIdeal.fn_threefry_split_1.body Cert.ReferenceIdeal.fn_threefry_split_1.body
    repeat' first
      | with_reducible exact Beside.nil
      | with_reducible refine Beside.bind rounds_c ?_
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl

/-- The whole of `_shuffle`: from agreement on its two arguments to agreement on every buffer of the call, its result among them. -/
theorem shuffle : Beside 12 14 974
    (Cert.KernelIdeal.fn_shuffle.body (F := Ideal) (.of Cert.KernelIdeal.main_v6) (.of Cert.KernelIdeal.main_v7) Cert.KernelIdeal.main_call0)
    (Cert.ReferenceIdeal.fn_shuffle.body (F := Ideal) (.of Cert.ReferenceIdeal.main_v6) (.of Cert.ReferenceIdeal.main_v7) Cert.ReferenceIdeal.main_call0) := by
  · unfold Cert.KernelIdeal.fn_shuffle.body Cert.ReferenceIdeal.fn_shuffle.body
    repeat' first
      | with_reducible exact Beside.nil
      | with_reducible refine Beside.bind split_a ?_
      | with_reducible refine Beside.bind rounds_b ?_
      | with_reducible refine Beside.bind split_c ?_
      | with_reducible refine Beside.bind rounds_d ?_
      | with_reducible refine Beside.cons ?_ ?_
      | with_reducible refine Beside.one ?_
      | with_reducible refine Alike.nullary ?_ ?_ ?_
      | with_reducible refine Alike.unary ?_ ?_ ?_ ?_
      | with_reducible refine Alike.binary ?_ ?_ ?_ ?_ ?_
      | with_reducible refine Alike.reshape ?_ ?_ ?_
    all_goals first | exact ⟨rfl, rfl⟩ | exact ⟨rfl, rfl, rfl, rfl, rfl⟩ | rfl

end Cert.Shuffle
-- ==== Proof.Shuffle.KernelLine.lean ====
/-
  The kernel program's copy of `_shuffle` as the list of its operations.
-/
module

public import proofs.«01_k».proof.Proof.Gen.KernelIdeal.Launch
public import Idealize.ShloMosaic.PureOps.Ideal

@[expose] public section

set_option maxRecDepth 12196

namespace Cert.Shuffle

open Idealize.ShloMosaic Idealize.ShloMosaic.StableHlo Idealize.SL.Sem

variable {F : FTy → Type} [FloatOps F] [Cert.KernelIdeal.Facts]

set_option maxHeartbeats 40000000 in
/-- The kernel program's call of `_shuffle` is the straight line of its 960 operations. -/
theorem kernel_line : (Cert.KernelIdeal.fn_shuffle.body (.of Cert.KernelIdeal.main_v6) (.of Cert.KernelIdeal.main_v7) Cert.KernelIdeal.main_call0
      : Prog (TpuEff Cert.KernelIdeal.nD Cert.KernelIdeal.τ Cert.KernelIdeal.sig (Elt F)
          (Pipeline.Sig Cert.KernelIdeal.Λ₀ (Fin 1) fun p => (Cert.KernelIdeal.pcfgs (F := F) p).Adm) .tc) PUnit)
    = seq (Cert.KernelIdeal.Gen.hostOps0_1 (F := F)) := by
  chain_rfl

end Cert.Shuffle
-- ==== Proof.Reference.Run.lean ====
/-
  The reference program's run: its results as functions of the arguments and of the permutation that the kernel program
  computes, which is the one it computes itself.
-/
module

public import proofs.«01_k».proof.Proof.Reference.Line
public import proofs.«01_k».proof.Proof.Shuffle.Twin
public import proofs.«01_k».proof.Proof.Shuffle.KernelLine
public import proofs.«01_k».proof.Proof.Gen.KernelIdeal

@[expose] public section

set_option maxRecDepth 12196

noncomputable section

namespace Cert.Reference

open Cert.ReferenceIdeal
open Idealize.ShloMosaic Idealize.ShloMosaic.TcCoe Idealize.ShloMosaic.StableHlo Idealize.SL.Sem

/-- The kernel program's buffers once `_shuffle` has returned, from the contents `V` at the launch. -/
abbrev shuffled (V : Valuation Cert.KernelIdeal.τ Cert.KernelIdeal.sig (Elt Ideal)) : Valuation Cert.KernelIdeal.τ Cert.KernelIdeal.sig (Elt Ideal) :=
  after Cert.KernelIdeal.Gen.hostOps0_1 (after Cert.KernelIdeal.Gen.hostOps0 V)

/-- Both programs hand `_shuffle` the same key and the same row numbers. -/
theorem agree_before (V : Valuation Cert.KernelIdeal.τ Cert.KernelIdeal.sig (Elt Ideal)) (V' : Valuation τ sig (Elt Ideal)) :
    Cert.Shuffle.Agree 12 14 (after Cert.KernelIdeal.Gen.hostOps0 V) (after (before (F := Ideal)) V') := by
  intro T x x' h
  have h1 := Nat.le_of_ble_eq_true h.lo_le
  have h2 := Nat.le_of_ble_eq_true h.lt
  obtain ⟨xr, xt, xd, xu⟩ := x
  obtain ⟨xr', xt', xd', xu'⟩ := x'
  obtain e | e : xr.idx.val = 12 ∨ xr.idx.val = 13 := by
    dsimp only at h1 h2; omega
  · obtain rfl : xr = Cert.KernelIdeal.main_v6 := Cert.Shuffle.ref_ext h.space rfl e
    obtain rfl : xr' = main_v6 := Cert.Shuffle.ref_ext h.space' rfl (h.idx.symm.trans e)
    subst xt
    have g : after Cert.KernelIdeal.Gen.hostOps0 V (Proc.devRef .tc Cert.KernelIdeal.main_v6) = after (before (F := Ideal)) V' (Proc.devRef .tc main_v6) := by
      after_results
    exact g
  · obtain rfl : xr = Cert.KernelIdeal.main_v7 := Cert.Shuffle.ref_ext h.space rfl e
    obtain rfl : xr' = main_v7 := Cert.Shuffle.ref_ext h.space' rfl (h.idx.symm.trans e)
    subst xt
    have g : after Cert.KernelIdeal.Gen.hostOps0 V (Proc.devRef .tc Cert.KernelIdeal.main_v7) = after (before (F := Ideal)) V' (Proc.devRef .tc main_v7) := by
      after_results
    exact g

/-- The call of `_shuffle` in the reference program is a straight line that touches the core's own references, chooses
    nothing freely, leaves the arguments, and returns the permutation that the kernel program's call returns. -/
theorem shuffle_line (V : Valuation Cert.KernelIdeal.τ Cert.KernelIdeal.sig (Elt Ideal)) : ∃ ops : List (HloOp τ sig (Elt Ideal)),
    IsSeq (fn_shuffle.body (F := Ideal) (.of main_v6) (.of main_v7) main_call0) ops ∧ (∀ op ∈ ops, op.bufs ⊆ tcRefs τ sig) ∧
    (∀ op ∈ ops, op.fresh = ∅) ∧
    (∀ (V' : Valuation τ sig (Elt Ideal)) (b : Ref sig .tc), b.idx.val < 14 → after ops V' (Proc.devRef .tc b) = V' (Proc.devRef .tc b)) ∧
    ∀ V' : Valuation τ sig (Elt Ideal), after ops (after before V') (main_v8 : DevRef τ sig)
      = shuffled V (Cert.KernelIdeal.main_v8 : DevRef Cert.KernelIdeal.τ Cert.KernelIdeal.sig) := by
  obtain ⟨kops, ops, hk, hr, hb, hf, hw, -, ha⟩ := Cert.Shuffle.shuffle
  obtain rfl : kops = Cert.KernelIdeal.Gen.hostOps0_1 := Cert.Shuffle.seq_inj V (hk.symm.trans Cert.Shuffle.kernel_line)
  refine ⟨ops, hr, hb, hf, fun V' b hlt => ?_, fun V' => ?_⟩
  · clear hr hb hf ha hk
    induction ops generalizing V' with
    | nil => rfl
    | cons op ops ih =>
      obtain ⟨k, hk, hwk⟩ := hw op (List.mem_cons_self ..)
      rw [after_cons, ih (fun o ho => hw o (List.mem_cons_of_mem _ ho)), hwk.keeps V' (by omega)]
  · exact (ha _ _ (agree_before V V') _ (.of Cert.KernelIdeal.main_v8) (.of main_v8) ⟨rfl, rfl, rfl, rfl, rfl⟩).symm

/-- A line after a line. -/
theorem after_append {τ : Topo} {sig : RefSig} {Val : EltTy → Type} (a b : List (HloOp τ sig Val)) (W : Valuation τ sig Val) :
    after (a ++ b) W = after b (after a W) := by
  induction a generalizing W with
  | nil => rfl
  | cons op a ih => exact ih _

/-- The first stretch touches the core's own references only. -/
theorem before_bufs : (before (F := Ideal)).Forall fun op => op.bufs ⊆ tcRefs τ sig :=
  ⟨nullary_bufs_sub .., nullary_bufs_sub .., binary_bufs_sub .., unary_bufs_sub .., unary_bufs_sub ..,
    nullary_bufs_sub .., binary_bufs_sub .., unary_bufs_sub .., unary_bufs_sub .., binary_bufs_sub ..,
    nullary_bufs_sub ..⟩

/-- The first stretch chooses nothing freely. -/
theorem before_fresh : ∀ op ∈ before (F := Ideal), op.fresh = ∅ := by
  intro _ h
  repeat (cases h with | head => rfl | tail _ h => ?_)
  exact nomatch h

/-- The last stretch touches the core's own references only. -/
theorem behind_bufs : (behind (F := Ideal)).Forall fun op => op.bufs ⊆ tcRefs τ sig :=
  ⟨unary_bufs_sub .., nullary_bufs_sub .., unary_bufs_sub .., binary_bufs_sub .., nullary_bufs_sub ..,
    unary_bufs_sub .., binary_bufs_sub .., ternary_bufs_sub .., unary_bufs_sub .., nullary_bufs_sub ..,
    nullary_bufs_sub .., unary_bufs_sub .., binary_bufs_sub .., unary_bufs_sub .., unary_bufs_sub ..,
    binary_bufs_sub .., binary_bufs_sub .., nullary_bufs_sub .., binary_bufs_sub .., binary_bufs_sub ..,
    unary_bufs_sub .., nullary_bufs_sub .., unary_bufs_sub .., ternary_bufs_sub .., unary_bufs_sub ..,
    binary_bufs_sub .., unary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., ternary_bufs_sub .., nullary_bufs_sub .., unary_bufs_sub ..,
    nullary_bufs_sub .., unary_bufs_sub .., binary_bufs_sub .., nullary_bufs_sub .., unary_bufs_sub ..,
    binary_bufs_sub .., ternary_bufs_sub .., unary_bufs_sub .., nullary_bufs_sub .., unary_bufs_sub ..,
    ternary_bufs_sub ..⟩

/-- The last stretch chooses nothing freely. -/
theorem behind_fresh : ∀ op ∈ behind (F := Ideal), op.fresh = ∅ := by
  intro _ h
  repeat (cases h with | head => rfl | tail _ h => ?_)
  exact nomatch h

/-- The reference program's run from any memory: its two results are the rows of its first argument with the chosen ones
    replaced, and the labels, both by the kernel program's permutation; its arguments end unchanged. -/
theorem run (V : Valuation Cert.KernelIdeal.τ Cert.KernelIdeal.sig (Elt Ideal))
    (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
        = replaced (F := Ideal) (m ((c.tc : Thread nD τ).loc main_arg0)) (m ((c.tc : Thread nD τ).loc main_arg1)) (m ((c.tc : Thread nD τ).loc main_arg2))
            (shuffled V (Cert.KernelIdeal.main_v8 : DevRef Cert.KernelIdeal.τ Cert.KernelIdeal.sig))
      ∧ r.2.mem ((c.tc : Thread nD τ).loc main_v31) = labels (shuffled V (Cert.KernelIdeal.main_v8 : DevRef Cert.KernelIdeal.τ Cert.KernelIdeal.sig))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  obtain ⟨ops, hr, hb, hf, hk, hv⟩ := shuffle_line V
  have hall : ∀ op ∈ before (F := Ideal) ++ (ops ++ behind), op.bufs ⊆ tcRefs τ sig ∧ op.fresh = ∅ := by
    intro op ho
    rcases List.mem_append.mp ho with ho | ho
    · exact ⟨List.forall_iff_forall_mem.mp before_bufs op ho, before_fresh op ho⟩
    · rcases List.mem_append.mp ho with ho | ho
      · exact ⟨hb op ho, hf op ho⟩
      · exact ⟨List.forall_iff_forall_mem.mp behind_bufs op ho, behind_fresh op ho⟩
  have hseq : ∀ d, IsSeq (main (F := Ideal) d) (before ++ (ops ++ behind)) := by
    intro d
    unfold IsSeq at hr ⊢
    rw [seq_append, seq_append, main_eq, hr]
  refine (θ_run defs _ _).mono (fun r h c => ?_) (run_hlo defs main hseq (by decide) (by decide)
    (List.forall_iff_forall_mem.mpr fun op ho => (hall op ho).1) (fun op ho => (hall op ho).2) m ρ)
  have e : ∀ b : Ref sig .tc, r.2.mem ((c.tc : Thread nD τ).loc b)
      = after behind (after ops (after before (launchContents m c))) (Proc.devRef .tc b) := fun b => by
    rw [h c b, after_append, after_append]
  have a0 : after ops (after before (launchContents m c)) (main_arg0 : DevRef τ sig) = m ((c.tc : Thread nD τ).loc main_arg0) := by
    rw [hk _ _ (by decide)]; after_results
  have a1 : after ops (after before (launchContents m c)) (main_arg1 : DevRef τ sig) = m ((c.tc : Thread nD τ).loc main_arg1) := by
    rw [hk _ _ (by decide)]; after_results
  have a2 : after ops (after before (launchContents m c)) (main_arg2 : DevRef τ sig) = m ((c.tc : Thread nD τ).loc main_arg2) := by
    rw [hk _ _ (by decide)]; after_results
  refine ⟨?_, ?_, ?_, ?_, ?_⟩
  · rw [e, behind_v22, a0, a1, a2, hv]
  · rw [e, behind_v31, hv]
  · rw [e, ← a0]; generalize after ops _ = W; after_results
  · rw [e, ← a1]; generalize after ops _ = W; after_results
  · rw [e, ← a2]; generalize after ops _ = W; after_results

end Cert.Reference

end
-- ==== Proof.Kernel.Host.lean ====
/-
  What the kernel program's host operations hand to the grid: the labels, the transposed weights, the bias as one row,
  and the labels as a mask of floating-point zeros and ones.
-/
module

public import proofs.«01_k».proof.Proof.Reference.Entry
public import proofs.«01_k».proof.Proof.Reference.Run
public import proofs.«01_k».proof.Proof.Gen.KernelIdeal.Frame

@[expose] public section

set_option maxRecDepth 12196

noncomputable section

namespace Cert.KernelSide

open Cert.KernelIdeal Cert.KernelIdeal.Gen
open Idealize.ShloMosaic Idealize.ShloMosaic.TcCoe Idealize.ShloMosaic.StableHlo Idealize.ShloMosaic.ValueIdx Idealize.ShloMosaic.Routing
open Cert.Reference (shuffled labels)

variable (m : (ℓ : Loc nD τ sig) → Buf (Elt Ideal) ℓ) (c : Dev nD)

/-- The permutation that `_shuffle` returns on device `c`. -/
abbrev perm : IVec S1000000 32 := shuffled (fun b => m (c, b)) (main_v8 : DevRef τ sig)

/-- The contents the grid finds are those the last stretch of host operations leaves. -/
theorem V_eq (b : Ref sig .tc) : V m c b = after hostOps0_2 (shuffled fun b => m (c, b)) (Proc.devRef .tc b) := by
  unfold V
  rw [List.flatten_cons, List.flatten_cons, List.flatten_cons, List.flatten_nil, List.append_nil, Cert.Reference.after_append, Cert.Reference.after_append]

/-- The second result holds the labels. -/
theorem V_v18 : V m c main_v18 = labels (perm m c) := by
  rw [V_eq]
  unfold perm
  generalize shuffled _ = W
  after_results
  rfl

/-- The grid's weights are the transposed weights. -/
theorem V_v19 (h : S64x64.Transposes [1, 0] S64x64) : V m c main_v19 = transpose S64x64 [1, 0] (m ((c.tc : Thread nD τ).loc main_arg1)) h := by
  rw [← V_main_arg1 m c, V_eq, V_eq]
  generalize shuffled _ = W
  after_results

/-- The grid's bias is the bias as one row. -/
theorem V_v20 (h : S64.ShapeCasts S1x64) : V m c main_v20 = shapeCast S1x64 (m ((c.tc : Thread nD τ).loc main_arg2)) h := by
  rw [← V_main_arg2 m c, V_eq, V_eq]
  generalize shuffled _ = W
  after_results
  rfl

/-- The grid's mask is the labels, 8000 to a block, as numbers. -/
theorem V_v22 (h : S1000000.ShapeCasts S125x1x8000) : V m c main_v22 = uitofp (F := Ideal) .f32 (shapeCast S125x1x8000 (labels (perm m c)) h) := by
  rw [← V_v18, V_eq, V_eq]
  generalize shuffled _ = W
  after_results
  rfl

end Cert.KernelSide

end
-- ==== Proof.Kernel.Result.lean ====
/-
  The kernel program's first result as a whole array: block `t` holds rows `8000 t` to `8000 t + 7999`, so the 125
  blocks fill the array, and every row is what the reference program computes for it.
-/
module

public import proofs.«01_k».proof.Proof.Kernel.Block
public import proofs.«01_k».proof.Proof.Kernel.Host
public import proofs.«01_k».proof.Proof.Gen.KernelIdeal.Value

@[expose] public section

set_option maxRecDepth 12196

noncomputable section

namespace Cert.KernelSide

open Cert.KernelIdeal Cert.KernelIdeal.Gen
open Idealize.ShloMosaic Idealize.ShloMosaic.TcCoe Idealize.SL.Sem Idealize.ShloMosaic.ValueIdx Idealize.ShloMosaic.Routing
open Cert.Reference (labels replaced image Chosen)

variable (m : (ℓ : Loc nD τ sig) → Buf (Elt Ideal) ℓ) (c : Dev nD)

/-- Row `r` of block `t`, as a row of the array. -/
def row (t : Fin cfg0.N) (r : Fin 8000) : Fin 1000000 :=
  ⟨t.val * 8000 + r.val, by have h : cfg0.N = 125 := N_0; have := t.isLt; have := r.isLt; omega⟩

/-! ## Where the blocks lie -/

/-- The row blocks start at block row `t`, the whole columns. -/
theorem index_rows : ∀ t : Fin cfg0.N, (win0_0.index t 0 = t.val ∧ win0_0.index t 1 = 0) ∧ (win0_4.index t 0 = t.val ∧ win0_4.index t 1 = 0) :=
  (by decide +kernel : ∀ t : Fin grid0.N, (win0_0.index t 0 = t.val ∧ win0_0.index t 1 = 0) ∧ (win0_4.index t 0 = t.val ∧ win0_4.index t 1 = 0))

/-- The mask block is block `t`. -/
theorem index_mask : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The weights and the bias are whole at every point. -/
theorem index_whole : ∀ t : Fin cfg0.N, (win0_2.index t 0 = 0 ∧ win0_2.index t 1 = 0) ∧ (win0_3.index t 0 = 0 ∧ win0_3.index t 1 = 0) :=
  (by decide +kernel : ∀ t : Fin grid0.N, (win0_2.index t 0 = 0 ∧ win0_2.index t 1 = 0) ∧ (win0_3.index t 0 = 0 ∧ win0_3.index t 1 = 0))

/-! ## What the blocks hold -/

/-- The row block holds the first argument's rows. -/
theorem rows_entry (t : Fin cfg0.N) (r : Fin 8000) (k : Fin 64) :
    iblk m c 0 t (ix2 r k) = (m ((c.tc : Thread nD τ).loc main_arg0) : FVec Ideal S1000000x64 .f32) (ix2 (row t r) k) := by
  rw [← V_main_arg0 m c]
  unfold iblk
  rw [View.read_apply]
  show V m c main_arg0 _ = V m c main_arg0 _
  refine congrArg (V m c main_arg0) (funext fun a => Fin.ext ?_)
  match a with
  | ⟨0, _⟩ => show win0_0.index t 0 * 8000 + 1 * r.val = t.val * 8000 + r.val; rw [(index_rows t).1.1, Nat.one_mul]
  | ⟨1, _⟩ => show win0_0.index t 1 * 64 + 1 * k.val = k.val; rw [(index_rows t).1.2]; omega

/-- The mask block holds the rows' labels as numbers. -/
theorem mask_block_entry (t : Fin cfg0.N) (r : Fin 8000) :
    iblk m c 1 t (ix3 (0 : Fin 1) (0 : Fin 1) r) = (((labels (perm m c) (ix1 (row t r))).toNat : ℝ) : EReal) := by
  have ht : t.val < 125 := by have h : cfg0.N = 125 := N_0; have := t.isLt; omega
  have e : iblk m c 1 t (ix3 (0 : Fin 1) (0 : Fin 1) r) = V m c main_v22 (ix3 (⟨t.val, ht⟩ : Fin 125) (0 : Fin 1) r) := by
    unfold iblk
    rw [View.read_apply]
    show V m c main_v22 _ = V m c main_v22 _
    refine congrArg (V m c main_v22) (funext fun a => Fin.ext ?_)
    match a with
    | ⟨0, _⟩ => show win0_1.index t 0 * 1 + 1 * 0 = t.val; rw [(index_mask t).1]; omega
    | ⟨1, _⟩ => show win0_1.index t 1 * 1 + 1 * 0 = 0; rw [(index_mask t).2.1]
    | ⟨2, _⟩ => show win0_1.index t 2 * 8000 + 1 * r.val = r.val; rw [(index_mask t).2.2]; omega
  rw [e, V_v22 m c shapeCasts_S1000000_S125x1x8000]
  show (((shapeCast S125x1x8000 (labels (perm m c)) _ _).toNat : ℝ) : EReal) = _
  rw [cast13 (labels (perm m c)) _ (⟨t.val, ht⟩ : Fin 125) (0 : Fin 1) r (row t r) (by show t.val * 8000 + r.val = (t.val * 1 + 0) * 8000 + r.val; omega)]

/-- The weight block holds the transposed weights. -/
theorem weights_entry (t : Fin cfg0.N) (k j : Fin 64) :
    iblk m c 2 t (ix2 k j) = (m ((c.tc : Thread nD τ).loc main_arg1) : FVec Ideal S64x64 .f32) (ix2 j k) := by
  have e : iblk m c 2 t (ix2 k j) = V m c main_v19 (ix2 k j) := by
    unfold iblk
    rw [View.read_apply]
    show V m c main_v19 _ = V m c main_v19 _
    refine congrArg (V m c main_v19) (funext fun a => Fin.ext ?_)
    match a with
    | ⟨0, _⟩ => show win0_2.index t 0 * 64 + 1 * k.val = k.val; rw [(index_whole t).1.1]; omega
    | ⟨1, _⟩ => show win0_2.index t 1 * 64 + 1 * j.val = j.val; rw [(index_whole t).1.2]; omega
  rw [e, V_v19 m c transposes_S64x64_S64x64_1_0]
  exact transpose_apply [1, 0] _ _ _ (ix2 j k) fun a => by match a with | ⟨0, _⟩ => rfl | ⟨1, _⟩ => rfl

/-- The bias block holds the bias. -/
theorem bias_entry (t : Fin cfg0.N) (j : Fin 64) :
    iblk m c 3 t (ix2 (0 : Fin 1) j) = (m ((c.tc : Thread nD τ).loc main_arg2) : FVec Ideal S64 .f32) (ix1 j) := by
  have e : iblk m c 3 t (ix2 (0 : Fin 1) j) = V m c main_v20 (ix2 (0 : Fin 1) j) := by
    unfold iblk
    rw [View.read_apply]
    show V m c main_v20 _ = V m c main_v20 _
    refine congrArg (V m c main_v20) (funext fun a => Fin.ext ?_)
    match a with
    | ⟨0, _⟩ => show win0_3.index t 0 * 1 + 1 * 0 = 0; rw [(index_whole t).2.1]
    | ⟨1, _⟩ => show win0_3.index t 1 * 64 + 1 * j.val = j.val; rw [(index_whole t).2.2]; omega
  rw [e, V_v20 m c shapeCasts_S64_S1x64]
  exact cast12 _ _ (0 : Fin 1) j j (by show j.val = 0 * 64 + j.val; omega)

/-! ## The array -/

/-- The first result: the first argument with the chosen rows replaced. -/
abbrev result : FVec Ideal S1000000x64 .f32 :=
  replaced (F := Ideal) (m ((c.tc : Thread nD τ).loc main_arg0)) (m ((c.tc : Thread nD τ).loc main_arg1)) (m ((c.tc : Thread nD τ).loc main_arg2)) (perm m c)

/-- An entry of the block that a grid point leaves is that entry of the result. -/
theorem block_entry (t : Fin cfg0.N) (r : Fin 8000) (j : Fin 64) :
    out0_4 (iblk m c 0 t) (iblk m c 1 t) (iblk m c 2 t) (iblk m c 3 t) (ix2 r j) = result m c (ix2 (row t r) j) := by
  by_cases h : Chosen (perm m c) (row t r)
  · have hl : iblk m c 1 t (ix3 (0 : Fin 1) (0 : Fin 1) r) = (1 : EReal) := by
      rw [mask_block_entry, Cert.Reference.labels_chosen _ _ h]
      show (((1 : ℕ) : ℝ) : EReal) = 1
      rw [Nat.cast_one, EReal.coe_one]
    rw [result, Cert.Reference.replaced_chosen _ _ _ _ _ _ h]
    refine (out_chosen (iblk m c 0 t) (iblk m c 1 t) (iblk m c 2 t) (iblk m c 3 t) r j hl).trans ?_
    unfold image
    exact congrArg₂ (· + ·) (Finset.sum_congr rfl fun k _ => congrArg₂ (· * ·) (rows_entry m c t r k) (weights_entry m c t k j)) (bias_entry m c t j)
  · have hl : iblk m c 1 t (ix3 (0 : Fin 1) (0 : Fin 1) r) = (0 : EReal) := by
      rw [mask_block_entry, Cert.Reference.labels_other _ _ h]
      show (((0 : ℕ) : ℝ) : EReal) = 0
      rw [Nat.cast_zero, EReal.coe_zero]
    rw [result, Cert.Reference.replaced_other _ _ _ _ _ _ h]
    exact (out_other (iblk m c 0 t) (iblk m c 1 t) (iblk m c 2 t) (iblk m c 3 t) r j hl).trans (rows_entry m c t r j)

/-- The output's block `t` of an array holds rows `8000 t` to `8000 t + 7999` of it. -/
theorem block_read (G : FVec Ideal S1000000x64 .f32) (t : Fin cfg0.N) :
    ((cfg0.win 4).blk t).view.read (Elt Ideal) G = fun i : S8000x64.Idx => G (ix2 (row t (i 0)) (i 1)) := by
  funext i
  rw [View.read_apply]
  show G _ = G _
  refine congrArg G (funext fun a => Fin.ext ?_)
  match a with
  | ⟨0, _⟩ => show win0_4.index t 0 * 8000 + 1 * (i 0).val = t.val * 8000 + (i 0).val; rw [(index_rows t).2.1, Nat.one_mul]
  | ⟨1, _⟩ => show win0_4.index t 1 * 64 + 1 * (i 1).val = (i 1).val; rw [(index_rows t).2.2]; omega

/-- What a grid point writes back is its block of the result. -/
theorem flushed_eq (t : Fin cfg0.N) : (dats m 0 c).flushed 4 t = ((cfg0.win 4).blk t).view.read (Elt Ideal) (result m c) := by
  rw [Cert.KernelIdeal.Value.flushed4, block_read]
  show out0_4 (iblk m c 0 t) (iblk m c 1 t) (iblk m c 2 t) (iblk m c 3 t) = _
  funext i
  exact (congrArg (out0_4 (iblk m c 0 t) (iblk m c 1 t) (iblk m c 2 t) (iblk m c 3 t)) (eq_ix2 i)).trans (block_entry m c t (i 0) (i 1))

/-- The 125 blocks fill the array. -/
theorem cover (i : S1000000x64.Idx) : ∃ t : Fin cfg0.N, (cfg0.win 4).flush t = true ∧ i ∈ ((cfg0.win 4).blk t).view.set := by
  have h0 : (i 0).val < 1000000 := (i 0).isLt
  have h1 : (i 1).val < 64 := (i 1).isLt
  have hN : cfg0.N = 125 := N_0
  let t : Fin cfg0.N := ⟨(i 0).val / 8000, by omega⟩
  refine ⟨t, flush0_4 t, ?_⟩
  show i ∈ ((View.whole main_v23).slice (win0_4.rect t)).set
  rw [View.set_slice_whole, Rect.mem_set_unit]
  intro a
  match a with
  | ⟨0, _⟩ =>
    show win0_4.index t 0 * 8000 ≤ (i 0).val ∧ (i 0).val < win0_4.index t 0 * 8000 + 8000
    rw [(index_rows t).2.1]
    show (i 0).val / 8000 * 8000 ≤ (i 0).val ∧ (i 0).val < (i 0).val / 8000 * 8000 + 8000
    omega
  | ⟨1, _⟩ =>
    show win0_4.index t 1 * 64 ≤ (i 1).val ∧ (i 1).val < win0_4.index t 1 * 64 + 64
    rw [(index_rows t).2.2]
    omega

/-- After the last grid point the output array is the result. -/
theorem final : (dats m 0 c).arrAt 4 cfg0.N = result m c :=
  (dats m 0 c).arrAt_eq_of_cover 4 (result m c) (fun t _ => flushed_eq m c t) fun i => cover i

/-- The kernel program's run: its two results, and its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v23) = result m c
      ∧ r.2.mem ((c.tc : Thread nD τ).loc main_v18) = labels (perm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(Cert.KernelIdeal.Value.post4 m r h c).trans (final m c),
      ((h c).2 main_v18 (Pipeline.mem_restRefs_of main_v18 (by decide) (by decide))).trans (V_v18 m c),
      Cert.KernelIdeal.Value.kept_main_arg0 m r h c, Cert.KernelIdeal.Value.kept_main_arg1 m r h c, Cert.KernelIdeal.Value.kept_main_arg2 m r h c⟩)
    (run_main m ρ)

end Cert.KernelSide

end
-- ==== Proof.Claims.lean ====
/-
  The two claims that take an argument of their own: the reference program terminates leaving its arguments, and the
  kernel program and the reference program, run from memories that agree on the arguments, leave equal results.
-/
module

public import proofs.«01_k».proof.Defs
public import proofs.«01_k».proof.Proof.Kernel.Result
public import Idealize.ShloMosaic.Lib.Quiescent

@[expose] public section

noncomputable section

namespace Cert.Proof

open Idealize.ShloMosaic Idealize.ShloMosaic.TcCoe Idealize.SL.Sem

/-- The reference program terminates, leaves its arguments, and has no semaphore to leave. -/
theorem reference_frame : Cert.quiescent_ReferenceIdeal := fun m ρ _ =>
  (θ_run Cert.ReferenceIdeal.defs _ _).mono
    (fun r h => ⟨fun c => ⟨(h c).2.2.1, (h c).2.2.2.1, (h c).2.2.2.2⟩, sem_eq_zero_of_no_sems (by decide) r.2⟩)
    (Cert.Reference.run (fun _ => Classical.arbitrary _) m ρ)

/-- The two programs' results are equal: both replace the same rows of the first argument by the same values, and both
    label the same rows. -/
theorem equal_results : Cert.algebraic_KernelIdeal_ReferenceIdeal := by
  intro m ρ m' ρ' _ hargs
  refine ⟨fun c => Cert.KernelSide.result m c, fun c => Cert.Reference.labels (Cert.KernelSide.perm m c), Cert.KernelSide.run m ρ, ?_⟩
  refine (θ_run Cert.ReferenceIdeal.defs _ _).mono (fun r h c => ?_) (Cert.Reference.run (fun b => m ((0 : Dev Cert.KernelIdeal.nD), b)) m' ρ')
  obtain ⟨h22, h31, hkept⟩ := h c
  obtain rfl : c = (0 : Dev Cert.KernelIdeal.nD) := Subsingleton.elim (α := Fin 1) _ _
  obtain ⟨e0, e1, e2⟩ := hargs (0 : Dev Cert.KernelIdeal.nD)
  refine ⟨?_, h31, hkept⟩
  rw [e0, e1, e2] at h22
  exact h22

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim: the kernel program, its idealization and the reference terminate leaving their arguments, the
    idealization rewrote nothing, and the results are equal. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal_results⟩

end Cert.Proof

end
